-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v69) = v0 c
          ∧ r.2.mem ((c.tc : Thread Cert.MixRefIdeal.nD Cert.MixRefIdeal.τ).loc Cert.MixRefIdeal.main_v71) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v26) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_In_InIdeal : Prop :=
  IdealRules.named_const.Statement Cert.InIdeal.κ "q_scale" .f32 0x3DB504F3#32 (((Real.sqrt 128)⁻¹ : ℝ) : EReal)

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)) (v2 : (c : Dev Cert.InIdeal.nD) → Buf (Elt Ideal) ((c.tc : Thread Cert.InIdeal.nD Cert.InIdeal.τ).loc Cert.InIdeal.main_v0_2)) (v3 : (c : Dev Cert.InIdeal.nD) → Buf (Elt Ideal) ((c.tc : Thread Cert.InIdeal.nD Cert.InIdeal.τ).loc Cert.InIdeal.main_v0_3)) (v4 : (c : Dev Cert.InIdeal.nD) → Buf (Elt Ideal) ((c.tc : Thread Cert.InIdeal.nD Cert.InIdeal.τ).loc Cert.InIdeal.main_v0_4)) (v5 : (c : Dev Cert.InIdeal.nD) → Buf (Elt Ideal) ((c.tc : Thread Cert.InIdeal.nD Cert.InIdeal.τ).loc Cert.InIdeal.main_v0_5)) (v6 : (c : Dev Cert.InIdeal.nD) → Buf (Elt Ideal) ((c.tc : Thread Cert.InIdeal.nD Cert.InIdeal.τ).loc Cert.InIdeal.main_v0_6)) (v7 : (c : Dev Cert.InIdeal.nD) → Buf (Elt Ideal) ((c.tc : Thread Cert.InIdeal.nD Cert.InIdeal.τ).loc Cert.InIdeal.main_v0_7)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_v0_2) = v2 c
          ∧ r.2.mem ((c.tc : Thread Cert.InIdeal.nD Cert.InIdeal.τ).loc Cert.InIdeal.main_v0_3) = v3 c
          ∧ r.2.mem ((c.tc : Thread Cert.InIdeal.nD Cert.InIdeal.τ).loc Cert.InIdeal.main_v0_4) = v4 c
          ∧ r.2.mem ((c.tc : Thread Cert.InIdeal.nD Cert.InIdeal.τ).loc Cert.InIdeal.main_v0_5) = v5 c
          ∧ r.2.mem ((c.tc : Thread Cert.InIdeal.nD Cert.InIdeal.τ).loc Cert.InIdeal.main_v0_6) = v6 c
          ∧ r.2.mem ((c.tc : Thread Cert.InIdeal.nD Cert.InIdeal.τ).loc Cert.InIdeal.main_v0_7) = v7 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v27) = v0 c
          ∧ r.2.mem ((c.tc : Thread Cert.InRefIdeal.nD Cert.InRefIdeal.τ).loc Cert.InRefIdeal.main_v28) = v1 c
          ∧ r.2.mem ((c.tc : Thread Cert.InRefIdeal.nD Cert.InRefIdeal.τ).loc Cert.InRefIdeal.main_v29) = v2 c
          ∧ r.2.mem ((c.tc : Thread Cert.InRefIdeal.nD Cert.InRefIdeal.τ).loc Cert.InRefIdeal.main_v30) = v3 c
          ∧ r.2.mem ((c.tc : Thread Cert.InRefIdeal.nD Cert.InRefIdeal.τ).loc Cert.InRefIdeal.main_v31) = v4 c
          ∧ r.2.mem ((c.tc : Thread Cert.InRefIdeal.nD Cert.InRefIdeal.τ).loc Cert.InRefIdeal.main_v32) = v5 c
          ∧ r.2.mem ((c.tc : Thread Cert.InRefIdeal.nD Cert.InRefIdeal.τ).loc Cert.InRefIdeal.main_v33) = v6 c
          ∧ r.2.mem ((c.tc : Thread Cert.InRefIdeal.nD Cert.InRefIdeal.τ).loc Cert.InRefIdeal.main_v34) = v7 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v4) = v0 c
          ∧ r.2.mem ((c.tc : Thread Cert.PrepRefIdeal.nD Cert.PrepRefIdeal.τ).loc Cert.PrepRefIdeal.main_v5) = v1 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0))

def preserves_Mlstm_MlstmIdeal : Prop :=
  IdealRules.named_const.Statement Cert.MlstmIdeal.κ "log2e" .f32 0x3FB8AA3B#32 (((Real.log 2)⁻¹ : ℝ) : EReal)

def Claim : Prop :=
  ∃ (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hIn : Cert.In.Facts) (hInIdeal : Cert.InIdeal.Facts) (hInRefIdeal : Cert.InRefIdeal.Facts) (hPrep : Cert.Prep.Facts) (hPrepIdeal : Cert.PrepIdeal.Facts) (hPrepRefIdeal : Cert.PrepRefIdeal.Facts) (hMlstm : Cert.Mlstm.Facts) (hMlstmIdeal : Cert.MlstmIdeal.Facts),
    quiescent_Mix (hMix := hMix)
    ∧ quiescent_MixIdeal (hMixIdeal := hMixIdeal)
    ∧ quiescent_MixRefIdeal (hMixRefIdeal := hMixRefIdeal)
    ∧ quiescent_Ffn (hFfn := hFfn)
    ∧ quiescent_FfnIdeal (hFfnIdeal := hFfnIdeal)
    ∧ quiescent_FfnRefIdeal (hFfnRefIdeal := hFfnRefIdeal)
    ∧ quiescent_In (hIn := hIn)
    ∧ quiescent_InIdeal (hInIdeal := hInIdeal)
    ∧ quiescent_InRefIdeal (hInRefIdeal := hInRefIdeal)
    ∧ quiescent_Prep (hPrep := hPrep)
    ∧ quiescent_PrepIdeal (hPrepIdeal := hPrepIdeal)
    ∧ quiescent_PrepRefIdeal (hPrepRefIdeal := hPrepRefIdeal)
    ∧ quiescent_Mlstm (hMlstm := hMlstm)
    ∧ quiescent_MlstmIdeal (hMlstmIdeal := hMlstmIdeal)
    ∧ preserves_Mix_MixIdeal
    ∧ algebraic_MixIdeal_MixRefIdeal (hMixIdeal := hMixIdeal) (hMixRefIdeal := hMixRefIdeal)
    ∧ preserves_Ffn_FfnIdeal
    ∧ algebraic_FfnIdeal_FfnRefIdeal (hFfnIdeal := hFfnIdeal) (hFfnRefIdeal := hFfnRefIdeal)
    ∧ preserves_In_InIdeal
    ∧ algebraic_InIdeal_InRefIdeal (hInIdeal := hInIdeal) (hInRefIdeal := hInRefIdeal)
    ∧ preserves_Prep_PrepIdeal
    ∧ algebraic_PrepIdeal_PrepRefIdeal (hPrepIdeal := hPrepIdeal) (hPrepRefIdeal := hPrepRefIdeal)
    ∧ preserves_Mlstm_MlstmIdeal
-- ==== Mix.lean ====
abbrev S16384x2048 : Shape := ⟨2, ![16384, 2048]⟩
abbrev S16384x16384 : Shape := ⟨2, ![16384, 16384]⟩
abbrev S3x2048 : Shape := ⟨2, ![3, 2048]⟩
abbrev S2048x2048 : Shape := ⟨2, ![2048, 2048]⟩
abbrev S1x2048 : Shape := ⟨2, ![1, 2048]⟩
abbrev S256x2048 : Shape := ⟨2, ![256, 2048]⟩
abbrev S256x6144 : Shape := ⟨2, ![256, 6144]⟩
abbrev S16x4096 : Shape := ⟨2, ![16, 4096]⟩
abbrev S256x4096 : Shape := ⟨2, ![256, 4096]⟩
abbrev S256x256 : Shape := ⟨2, ![256, 256]⟩
abbrev S16x256 : Shape := ⟨2, ![16, 256]⟩
abbrev S1x256 : Shape := ⟨2, ![1, 256]⟩
abbrev S256 : Shape := ⟨1, ![256]⟩
abbrev S256x1 : Shape := ⟨2, ![256, 1]⟩

abbrev nBuf : Space → Nat
  | .hbm => 10
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x16384, .bf16⟩
  | .hbm, ⟨2, _⟩ => ⟨S3x2048, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S256x6144, .bf16⟩
  | .local _ .vmem, ⟨3, _⟩ => ⟨S256x6144, .bf16⟩
  | .local _ .vmem, ⟨4, _⟩ => ⟨S16x4096, .bf16⟩
  | .local _ .vmem, ⟨5, _⟩ => ⟨S16x4096, .bf16⟩
  | .local _ .vmem, ⟨6, _⟩ => ⟨S3x2048, .f32⟩
  | .local _ .vmem, ⟨7, _⟩ => ⟨S256x4096, .bf16⟩
  | .local _ .vmem, ⟨8, _⟩ => ⟨S256x4096, .bf16⟩
  | .local _ .vmem, ⟨9, _⟩ => ⟨S2048x2048, .bf16⟩
  | .local _ .vmem, ⟨10, _⟩ => ⟨S2048x2048, .bf16⟩
  | .local _ .vmem, ⟨11, _⟩ => ⟨S2048x2048, .bf16⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixRefIdeal.lean ====
abbrev S16384x2048 : Shape := ⟨2, ![16384, 2048]⟩
abbrev S16384x16384 : Shape := ⟨2, ![16384, 16384]⟩
abbrev S3x2048 : Shape := ⟨2, ![3, 2048]⟩
abbrev S2048x2048 : Shape := ⟨2, ![2048, 2048]⟩
abbrev S1x2048 : Shape := ⟨2, ![1, 2048]⟩
abbrev S8x2048x2048 : Shape := ⟨3, ![8, 2048, 2048]⟩
abbrev S8x2048x16384 : Shape := ⟨3, ![8, 2048, 16384]⟩
abbrev S_ : Shape := ⟨0, ![]⟩
abbrev S8x2050x2048 : Shape := ⟨3, ![8, 2050, 2048]⟩
abbrev S2048 : Shape := ⟨1, ![2048]⟩
abbrev S1x1x2048 : Shape := ⟨3, ![1, 1, 2048]⟩
abbrev S8x2048 : Shape := ⟨2, ![8, 2048]⟩
abbrev S8x2048x1 : Shape := ⟨3, ![8, 2048, 1]⟩

abbrev nBuf : Space → Nat
  | .hbm => 89
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x16384, .bf16⟩
  | .hbm, ⟨2, _⟩ => ⟨S3x2048, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S8x2048x2048, .f32⟩
  | .hbm, ⟨10, _⟩ => ⟨S16384x16384, .f32⟩
  | .hbm, ⟨11, _⟩ => ⟨S8x2048x16384, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S2048x2048, .f32⟩
  | .hbm, ⟨19, _⟩ => ⟨S8x2048x2048, .f32⟩
  | .hbm, ⟨20, _⟩ => ⟨S8x2048x2048, .f32⟩
  | .hbm, ⟨21, _⟩ => ⟨S_, .i32⟩
  | .hbm, ⟨22, _⟩ => ⟨S_, .f32⟩
  | .hbm, ⟨23, _⟩ => ⟨S8x2050x2048, .f32⟩
  | .hbm, ⟨24, _⟩ => ⟨S1x2048, .f32⟩
  | .hbm, ⟨25, _⟩ => ⟨S2048, .f32⟩
  | .hbm, ⟨26, _⟩ => ⟨S8x2048x2048, .f32⟩
  | .hbm, ⟨27, _⟩ => ⟨S1x1x2048, .f32⟩
  | .hbm, ⟨28, _⟩ => ⟨S8x2048x2048, .f32⟩
  | .hbm, ⟨29, _⟩ => ⟨S8x2048x2048, .f32⟩
  | .hbm, ⟨30, _⟩ => ⟨S1x2048, .f32⟩
  | .hbm, ⟨31, _⟩ => ⟨S2048, .f32⟩
  | .hbm, ⟨32, _⟩ => ⟨S8x2048x2048, .f32⟩
  | .hbm, ⟨33, _⟩ => ⟨S1x1x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S1x2048, .f32⟩
  | .hbm, ⟨38, _⟩ => ⟨S2048, .f32⟩
  | .hbm, ⟨39, _⟩ => ⟨S8x2048x2048, .f32⟩
  | .hbm, ⟨40, _⟩ => ⟨S1x1x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048x2048, .f32⟩
  | .hbm, ⟨51, _⟩ => ⟨S8x2048x2048, .f32⟩
  | .hbm, ⟨52, _⟩ => ⟨S_, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S2048x2048, .f32⟩
  | .hbm, ⟨67, _⟩ => ⟨S8x2048x2048, .f32⟩
  | .hbm, ⟨68, _⟩ => ⟨S8x2048x2048, .f32⟩
  | .hbm, ⟨69, _⟩ => ⟨S8x2048x2048, .f32⟩
  | .hbm, ⟨70, _⟩ => ⟨S_, .f32⟩
  | .hbm, ⟨71, _⟩ => ⟨S8x2048, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S8x2048x1, .f32⟩
  | .hbm, ⟨80, _⟩ => ⟨S8x2048x2048, .f32⟩
  | .hbm, ⟨81, _⟩ => ⟨S8x2048x2048, .f32⟩
  | .hbm, ⟨82, _⟩ => ⟨S2048, .f32⟩
  | .hbm, ⟨83, _⟩ => ⟨S1x1x2048, .f32⟩
  | .hbm, ⟨84, _⟩ => ⟨S8x2048x2048, .f32⟩
  | .hbm, ⟨85, _⟩ => ⟨S8x2048x2048, .f32⟩
  | .hbm, ⟨86, _⟩ => ⟨S16384x2048, .f32⟩
  | .hbm, ⟨87, _⟩ => ⟨S8x2048x2048, .bf16⟩
  | .hbm, ⟨88, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst : Ref sig .tc := ⟨.hbm, 49, rfl⟩
abbrev main_v39 : Ref sig .tc := ⟨.hbm, 50, rfl⟩
abbrev main_v40 : Ref sig .tc := ⟨.hbm, 51, rfl⟩
abbrev main_cst_0 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_v46 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_3 : Ref sig .tc := ⟨.hbm, 70, rfl⟩
abbrev main_v56 : Ref sig .tc := ⟨.hbm, 71, rfl⟩
abbrev main_v57 : Ref sig .tc := ⟨.hbm, 72, rfl⟩
abbrev main_cst_4 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Ffn.lean ====
abbrev S16384x2048 : Shape := ⟨2, ![16384, 2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S_ : Shape := ⟨0, ![]⟩
abbrev S1024x512 : Shape := ⟨2, ![1024, 512]⟩
abbrev S32x2048 : Shape := ⟨2, ![32, 2048]⟩
abbrev S32 : Shape := ⟨1, ![32]⟩
abbrev S32x1 : Shape := ⟨2, ![32, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_4 : BitVec 32 := 0#32
  ![v1.toNat, 0]
def k0_cond3 (i : grid0.Coords) : BitVec 1 :=
  let arg1 : BitVec 32 := BitVec.ofNat 32 (i 1).val
  let c10_i32 : BitVec 32 := 10#32
  let v8 : BitVec 1 := Scalar.cmpi .eq arg1 c10_i32
  let v9 : BitVec 32 := Scalar.extui v8
  let c0_i32_3 : BitVec 32 := 0#32
  let v10 : BitVec 1 := Scalar.cmpi .ne v9 c0_i32_3
  v10

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_4 : BitVec 32 := 0#32
  ![v1.toNat, 0]
def k0_cond2 (i : grid0.Coords) : BitVec 1 :=
  let arg1 : BitVec 32 := BitVec.ofNat 32 (i 1).val
  let c0_i32_1 : BitVec 32 := 0#32
  let v5 : BitVec 1 := Scalar.cmpi .sgt arg1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S2048x5632 : Shape := ⟨2, ![2048, 5632]⟩
abbrev S5632x2048 : Shape := ⟨2, ![5632, 2048]⟩
abbrev S1x2048 : Shape := ⟨2, ![1, 2048]⟩
abbrev S8x2048x2048 : Shape := ⟨3, ![8, 2048, 2048]⟩
abbrev S8x2048x5632 : Shape := ⟨3, ![8, 2048, 5632]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S16384x2048, .f32⟩
  | .hbm, ⟨7, _⟩ => ⟨S8x2048x2048, .f32⟩
  | .hbm, ⟨8, _⟩ => ⟨S8x2048x2048, .f32⟩
  | .hbm, ⟨9, _⟩ => ⟨S2048x5632, .f32⟩
  | .hbm, ⟨10, _⟩ => ⟨S8x2048x5632, .f32⟩
  | .hbm, ⟨11, _⟩ => ⟨S8x2048x5632, .f32⟩
  | .hbm, ⟨12, _⟩ => ⟨S8x2048x5632, .f32⟩
  | .hbm, ⟨13, _⟩ => ⟨S_, .f32⟩
  | .hbm, ⟨14, _⟩ => ⟨S8x2048x5632, .f32⟩
  | .hbm, ⟨15, _⟩ => ⟨S8x2048x5632, .f32⟩
  | .hbm, ⟨16, _⟩ => ⟨S_, .f32⟩
  | .hbm, ⟨17, _⟩ => ⟨S8x2048x5632, .f32⟩
  | .hbm, ⟨18, _⟩ => ⟨S8x2048x5632, .f32⟩
  | .hbm, ⟨19, _⟩ => ⟨S8x2048x5632, .f32⟩
  | .hbm, ⟨20, _⟩ => ⟨S2048x5632, .f32⟩
  | .hbm, ⟨21, _⟩ => ⟨S8x2048x5632, .f32⟩
  | .hbm, ⟨22, _⟩ => ⟨S8x2048x5632, .f32⟩
  | .hbm, ⟨23, _⟩ => ⟨S5632x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S2048, .f32⟩
  | .hbm, ⟨40, _⟩ => ⟨S1x1x2048, .f32⟩
  | .hbm, ⟨41, _⟩ => ⟨S8x2048x2048, .f32⟩
  | .hbm, ⟨42, _⟩ => ⟨S8x2048x2048, .f32⟩
  | .hbm, ⟨43, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== In.lean ====
abbrev S16384x2048 : Shape := ⟨2, ![16384, 2048]⟩
abbrev S1x2048 : Shape := ⟨2, ![1, 2048]⟩
abbrev S2048x256 : Shape := ⟨2, ![2048, 256]⟩
abbrev S2048x2048 : Shape := ⟨2, ![2048, 2048]⟩
abbrev S2048x5632 : Shape := ⟨2, ![2048, 5632]⟩
abbrev S5632x2048 : Shape := ⟨2, ![5632, 2048]⟩
abbrev S16384x16384 : Shape := ⟨2, ![16384, 16384]⟩
abbrev S16384x256 : Shape := ⟨2, ![16384, 256]⟩
abbrev S1024x2048 : Shape := ⟨2, ![1024, 2048]⟩
abbrev S16x2048 : Shape := ⟨2, ![16, 2048]⟩
abbrev S16x5632 : Shape := ⟨2, ![16, 5632]⟩
abbrev S64x2048 : Shape := ⟨2, ![64, 2048]⟩
abbrev S1024x256 : Shape := ⟨2, ![1024, 256]⟩
abbrev S1024 : Shape := ⟨1, ![1024]⟩
abbrev S1024x1 : Shape := ⟨2, ![1024, 1]⟩

abbrev nBuf : Space → Nat
  | .hbm => 18
  | .vmem => 35
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x2048, .bf16⟩
  | .hbm, ⟨3, _⟩ => ⟨S2048x256, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S16384x16384, .bf16⟩
  | .hbm, ⟨11, _⟩ => ⟨S16384x256, .f32⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x5632, .bf16⟩
  | .hbm, ⟨16, _⟩ => ⟨S2048x5632, .bf16⟩
  | .hbm, ⟨17, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x256, .bf16⟩
  | .local _ .vmem, ⟨6, _⟩ => ⟨S16x2048, .f32⟩
  | .local _ .vmem, ⟨7, _⟩ => ⟨S16x2048, .f32⟩
  | .local _ .vmem, ⟨8, _⟩ => ⟨S16x2048, .f32⟩
  | .local _ .vmem, ⟨9, _⟩ => ⟨S16x2048, .f32⟩
  | .local _ .vmem, ⟨10, _⟩ => ⟨S16x2048, .f32⟩
  | .local _ .vmem, ⟨11, _⟩ => ⟨S16x2048, .f32⟩
  | .local _ .vmem, ⟨12, _⟩ => ⟨S16x5632, .f32⟩
  | .local _ .vmem, ⟨13, _⟩ => ⟨S16x5632, .f32⟩
  | .local _ .vmem, ⟨14, _⟩ => ⟨S16x5632, .f32⟩
  | .local _ .vmem, ⟨15, _⟩ => ⟨S16x5632, .f32⟩
  | .local _ .vmem, ⟨16, _⟩ => ⟨S64x2048, .f32⟩
  | .local _ .vmem, ⟨17, _⟩ => ⟨S64x2048, .f32⟩
  | .local _ .vmem, ⟨18, _⟩ => ⟨S1024x2048, .bf16⟩
  | .local _ .vmem, ⟨19, _⟩ => ⟨S1024x2048, .bf16⟩
  | .local _ .vmem, ⟨20, _⟩ => ⟨S1024x256, .f32⟩
  | .local _ .vmem, ⟨21, _⟩ => ⟨S1024x256, .f32⟩
  | .local _ .vmem, ⟨22, _⟩ => ⟨S16x2048, .bf16⟩
  | .local _ .vmem, ⟨23, _⟩ => ⟨S16x2048, .bf16⟩
  | .local _ .vmem, ⟨24, _⟩ => ⟨S16x2048, .bf16⟩
  | .local _ .vmem, ⟨25, _⟩ => ⟨S16x2048, .bf16⟩
  | .local _ .vmem, ⟨26, _⟩ => ⟨S16x2048, .bf16⟩
  | .local _ .vmem, ⟨27, _⟩ => ⟨S16x2048, .bf16⟩
  | .local _ .vmem, ⟨28, _⟩ => ⟨S16x5632, .bf16⟩
  | .local _ .vmem, ⟨29, _⟩ => ⟨S16x5632, .bf16⟩
  | .local _ .vmem, ⟨30, _⟩ => ⟨S16x5632, .bf16⟩
  | .local _ .vmem, ⟨31, _⟩ => ⟨S16x5632, .bf16⟩
  | .local _ .vmem, ⟨32, _⟩ => ⟨S64x2048, .bf16⟩
  | .local _ .vmem, ⟨33, _⟩ => ⟨S64x2048, .bf16⟩
  | .local _ .vmem, ⟨34, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.addi arg0 c1_i32
  let c15_i32 : BitVec 32 := 15#32
  let v2 : BitVec 32 := Scalar.minsi v1 c15_i32
  let v3 : BitVec 32 := Scalar.select v0 arg0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S16x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InIdeal.lean ====
variable {F : FTy → Type} [FloatOps F] [Named F]
def κ : String → Option EReal := fun
  | "q_scale" => some (((Real.sqrt 128)⁻¹ : ℝ) : EReal)
  | _ => none
-- ==== InRefIdeal.lean ====
abbrev S16384x2048 : Shape := ⟨2, ![16384, 2048]⟩
abbrev S1x2048 : Shape := ⟨2, ![1, 2048]⟩
abbrev S2048x256 : Shape := ⟨2, ![2048, 256]⟩
abbrev S2048x2048 : Shape := ⟨2, ![2048, 2048]⟩
abbrev S2048x5632 : Shape := ⟨2, ![2048, 5632]⟩
abbrev S5632x2048 : Shape := ⟨2, ![5632, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩
abbrev S2048x16384 : Shape := ⟨2, ![2048, 16384]⟩
abbrev S8x2048x16384 : Shape := ⟨3, ![8, 2048, 16384]⟩
abbrev S8x2048x1024 : Shape := ⟨3, ![8, 2048, 1024]⟩
abbrev S8x2048x15360 : Shape := ⟨3, ![8, 2048, 15360]⟩
abbrev S8x2048x256 : Shape := ⟨3, ![8, 2048, 256]⟩
abbrev S16384x16384 : Shape := ⟨2, ![16384, 16384]⟩
abbrev S16384x256 : Shape := ⟨2, ![16384, 256]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x2048, .bf16⟩
  | .hbm, ⟨3, _⟩ => ⟨S2048x256, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S16384x2048, .f32⟩
  | .hbm, ⟨29, _⟩ => ⟨S2048x16384, .f32⟩
  | .hbm, ⟨30, _⟩ => ⟨S8x2048x16384, .f32⟩
  | .hbm, ⟨31, _⟩ => ⟨S8x2048x1024, .f32⟩
  | .hbm, ⟨32, _⟩ => ⟨S_, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S8x2048x15360, .f32⟩
  | .hbm, ⟨37, _⟩ => ⟨S8x2048x16384, .f32⟩
  | .hbm, ⟨38, _⟩ => ⟨S2048x256, .f32⟩
  | .hbm, ⟨39, _⟩ => ⟨S8x2048x256, .f32⟩
  | .hbm, ⟨40, _⟩ => ⟨S8x2048x16384, .bf16⟩
  | .hbm, ⟨41, _⟩ => ⟨S16384x16384, .bf16⟩
  | .hbm, ⟨42, _⟩ => ⟨S16384x256, .f32⟩
  | .hbm, ⟨43, _⟩ => ⟨S2048x2048, .bf16⟩
  | .hbm, ⟨44, _⟩ => ⟨S2048x2048, .bf16⟩
  | .hbm, ⟨45, _⟩ => ⟨S2048x2048, .bf16⟩
  | .hbm, ⟨46, _⟩ => ⟨S2048x5632, .bf16⟩
  | .hbm, ⟨47, _⟩ => ⟨S2048x5632, .bf16⟩
  | .hbm, ⟨48, _⟩ => ⟨S5632x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Prep.lean ====
abbrev S16400x2048 : Shape := ⟨2, ![16400, 2048]⟩
abbrev S16384x2048 : Shape := ⟨2, ![16384, 2048]⟩
abbrev S16x2048 : Shape := ⟨2, ![16, 2048]⟩
abbrev S16400x128 : Shape := ⟨2, ![16400, 128]⟩
abbrev S16384x128 : Shape := ⟨2, ![16384, 128]⟩
abbrev S16x128 : Shape := ⟨2, ![16, 128]⟩
abbrev S6144x128 : Shape := ⟨2, ![6144, 128]⟩
abbrev S10240x128 : Shape := ⟨2, ![10240, 128]⟩

abbrev nBuf : Space → Nat
  | .hbm => 3
  | .vmem => 6
  | .smem => 0
  | _ => 0

abbrev bufTy : (tb : Table) → Fin (tcTables nBuf tb) → BufTy
  | .hbm, ⟨0, _⟩ => ⟨S16400x2048, .f32⟩
  | .hbm, ⟨1, _⟩ => ⟨S16384x2048, .bf16⟩
  | .hbm, ⟨2, _⟩ => ⟨S16x2048, .bf16⟩
  | .local _ .vmem, ⟨0, _⟩ => ⟨S16400x128, .f32⟩
  | .local _ .vmem, ⟨1, _⟩ => ⟨S16400x128, .f32⟩
  | .local _ .vmem, ⟨2, _⟩ => ⟨S16384x128, .bf16⟩
  | .local _ .vmem, ⟨3, _⟩ => ⟨S16384x128, .bf16⟩
  | .local _ .vmem, ⟨4, _⟩ => ⟨S16x128, .bf16⟩
  | .local _ .vmem, ⟨5, _⟩ => ⟨S16x128, .bf16⟩
  | _, _ => ⟨S16400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrepRefIdeal.lean ====
abbrev S16400x2048 : Shape := ⟨2, ![16400, 2048]⟩
abbrev S6144x2048 : Shape := ⟨2, ![6144, 2048]⟩
abbrev S16x2048 : Shape := ⟨2, ![16, 2048]⟩
abbrev S10240x2048 : Shape := ⟨2, ![10240, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16400x2048, .f32⟩
  | .hbm, ⟨1, _⟩ => ⟨S6144x2048, .f32⟩
  | .hbm, ⟨2, _⟩ => ⟨S16x2048, .f32⟩
  | .hbm, ⟨3, _⟩ => ⟨S10240x2048, .f32⟩
  | .hbm, ⟨4, _⟩ => ⟨S16384x2048, .f32⟩
  | .hbm, ⟨5, _⟩ => ⟨S16384x2048, .bf16⟩
  | .hbm, ⟨6, _⟩ => ⟨S16x2048, .bf16⟩
  | _, _ => ⟨S16400x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== Mlstm.lean ====
abbrev S16384x16384 : Shape := ⟨2, ![16384, 16384]⟩
abbrev S16384x256 : Shape := ⟨2, ![16384, 256]⟩
abbrev S1x256 : Shape := ⟨2, ![1, 256]⟩
abbrev S1x2048 : Shape := ⟨2, ![1, 2048]⟩
abbrev S256x1024 : Shape := ⟨2, ![256, 1024]⟩
abbrev S8x2048x16384 : Shape := ⟨3, ![8, 2048, 16384]⟩
abbrev S8x2048x256 : Shape := ⟨3, ![8, 2048, 256]⟩
abbrev S8x2048x2048 : Shape := ⟨3, ![8, 2048, 2048]⟩
abbrev S4x128x6144 : Shape := ⟨3, ![4, 128, 6144]⟩
abbrev S4x128x256 : Shape := ⟨3, ![4, 128, 256]⟩
abbrev S4x128x2048 : Shape := ⟨3, ![4, 128, 2048]⟩
abbrev S4x8x128x256 : Shape := ⟨4, ![4, 8, 128, 256]⟩
abbrev S4x8x128x128 : Shape := ⟨4, ![4, 8, 128, 128]⟩
abbrev S4x8x128x384 : Shape := ⟨4, ![4, 8, 128, 384]⟩
abbrev S4x8x128 : Shape := ⟨3, ![4, 8, 128]⟩
abbrev S4x3x128x1024 : Shape := ⟨4, ![4, 3, 128, 1024]⟩
abbrev S1x128x128 : Shape := ⟨3, ![1, 128, 128]⟩
abbrev S128x128 : Shape := ⟨2, ![128, 128]⟩
abbrev S1x1x128x128 : Shape := ⟨4, ![1, 1, 128, 128]⟩
abbrev S1x128x256 : Shape := ⟨3, ![1, 128, 256]⟩
abbrev S128x256 : Shape := ⟨2, ![128, 256]⟩
abbrev S1x1x128 : Shape := ⟨3, ![1, 1, 128]⟩
abbrev S1x128 : Shape := ⟨2, ![1, 128]⟩
abbrev S8x128 : Shape := ⟨2, ![8, 128]⟩
abbrev S1x8x128 : Shape := ⟨3, ![1, 8, 128]⟩
abbrev S128x1024 : Shape := ⟨2, ![128, 1024]⟩
abbrev S1x1x128x1024 : Shape := ⟨4, ![1, 1, 128, 1024]⟩
abbrev S128x384 : Shape := ⟨2, ![128, 384]⟩
abbrev S1x1x128x384 : Shape := ⟨4, ![1, 1, 128, 384]⟩
abbrev S256x384 : Shape := ⟨2, ![256, 384]⟩
abbrev S128 : Shape := ⟨1, ![128]⟩
abbrev S128x1 : Shape := ⟨2, ![128, 1]⟩
abbrev S1x1x128x256 : Shape := ⟨4, ![1, 1, 128, 256]⟩

abbrev nBuf : Space → Nat
  | .hbm => 8
  | .vmem => 15
  | .smem => 0
  | _ => 0

abbrev bufTy : (tb : Table) → Fin (tcTables nBuf tb) → BufTy
  | .hbm, ⟨0, _⟩ => ⟨S16384x16384, .bf16⟩
  | .hbm, ⟨1, _⟩ => ⟨S16384x256, .f32⟩
  | .hbm, ⟨2, _⟩ => ⟨S1x256, .f32⟩
  | .hbm, ⟨3, _⟩ => ⟨S1x2048, .f32⟩
  | .hbm, ⟨4, _⟩ => ⟨S256x1024, .bf16⟩
  | .hbm, ⟨5, _⟩ => ⟨S8x2048x16384, .bf16⟩
  | .hbm, ⟨6, _⟩ => ⟨S8x2048x256, .f32⟩
  | .hbm, ⟨7, _⟩ => ⟨S8x2048x2048, .bf16⟩
  | .local _ .vmem, ⟨0, _⟩ => ⟨S4x128x6144, .bf16⟩
  | .local _ .vmem, ⟨1, _⟩ => ⟨S4x128x6144, .bf16⟩
  | .local _ .vmem, ⟨2, _⟩ => ⟨S4x128x256, .f32⟩
  | .local _ .vmem, ⟨3, _⟩ => ⟨S4x128x256, .f32⟩
  | .local _ .vmem, ⟨4, _⟩ => ⟨S1x256, .f32⟩
  | .local _ .vmem, ⟨5, _⟩ => ⟨S1x2048, .f32⟩
  | .local _ .vmem, ⟨6, _⟩ => ⟨S256x1024, .bf16⟩
  | .local _ .vmem, ⟨7, _⟩ => ⟨S4x128x2048, .bf16⟩
  | .local _ .vmem, ⟨8, _⟩ => ⟨S4x128x2048, .bf16⟩
  | .local _ .vmem, ⟨9, _⟩ => ⟨S4x8x128x256, .f32⟩
  | .local _ .vmem, ⟨10, _⟩ => ⟨S4x8x128x128, .f32⟩
  | .local _ .vmem, ⟨11, _⟩ => ⟨S4x8x128x384, .bf16⟩
  | .local _ .vmem, ⟨12, _⟩ => ⟨S4x8x128, .f32⟩
  | .local _ .vmem, ⟨13, _⟩ => ⟨S4x8x128x128, .f32⟩
  | .local _ .vmem, ⟨14, _⟩ => ⟨S4x3x128x1024, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlstmIdeal.lean ====
variable {F : FTy → Type} [FloatOps F] [Named F]
def κ : String → Option EReal := fun
  | "log2e" => some (((Real.log 2)⁻¹ : ℝ) : EReal)
  | _ => none
-- ==== Proof.MixConv.lean ====
/-
  The short gated convolution of the mix kernel, block by block.

  The kernel cuts the 2048 channels in eight chunks of 256 and stores each chunk's gated convolution into one scratch
  block. The printed program cuts the arithmetic of the eight chunks in different places, but each chunk is the same
  function of its loads: `chunk` names it, and `chunk_apply` reads it at an index.
-/
module

public import proofs.«01_k».proof.Proof.Gen.MixIdeal.Value
public import Idealize.ShloMosaic.Lib.Pointwise
public import Idealize.ShloMosaic.Lib.Pipeline.ValueKit.Tiles

@[expose] public section

set_option maxRecDepth 16384

noncomputable section

namespace Cert.MixIdeal.Body

open Idealize.ShloMosaic Idealize.ShloMosaic.TcCoe Idealize.ShloMosaic.Tactic
open Idealize.ShloMosaic.Pointwise
open Cert.MixIdeal.Gen

/-- The gated convolution of one chunk of channels, from the kernel's own operations: `k` is the factor of the halo. -/
def chunk (k : Ideal .f32) (cb cc cx : Vec Ideal S256x256 .bf16) (h1 h2 : Vec Ideal S16x256 .bf16)
    (w0 w1 w2 : Vec Ideal S1x256 .f32) : FVec Ideal S256x256 .bf16 :=
  k0_pay12 (k0_pay11 k (iota .tc S256x256 32 [0] iota_S256x256_d0_w32) cc cx h1 h2 w0 w1 w2) cb

/-- A row number compared with a small number, as words. -/
theorem word_eq (r : Fin 256) (n : ℕ) (hn : n < 256) :
    IntOp.cmpi .eq (BitVec.ofNat 32 r.val) (BitVec.ofNat 32 n) = if r.val = n then 1#1 else 0#1 := by
  have hr := r.isLt
  have : (BitVec.ofNat 32 r.val = BitVec.ofNat 32 n) ↔ r.val = n := by
    rw [← BitVec.toNat_inj, BitVec.toNat_ofNat, BitVec.toNat_ofNat, Nat.mod_eq_of_lt (by omega), Nat.mod_eq_of_lt (by omega)]
  show BitVec.ofBool (BitVec.ofNat 32 r.val == BitVec.ofNat 32 n) = _
  by_cases h : r.val = n
  · rw [if_pos h, beq_iff_eq.mpr (this.mpr h)]; rfl
  · rw [if_neg h, beq_eq_false_iff_ne.mpr (fun e => h (this.mp e))]; rfl

/-- A select on such a comparison is a choice. -/
theorem select_word (r : Fin 256) (n : ℕ) (hn : n < 256) (a b : EReal) :
    Scalar.select (IntOp.cmpi .eq (BitVec.ofNat 32 r.val) (BitVec.ofNat 32 n)) a b = if r.val = n then a else b := by
  rw [word_eq r n hn]; by_cases h : r.val = n <;> simp [h, Scalar.select]

/-- The gated convolution of one row and channel of the block: `x1` holds the gate and the two factors of the
    convolved product side by side, `x2` the two factors on the sixteen rows before the block, `x3` the three taps. -/
def conv (k : EReal) (x1 : Vec Ideal S256x6144 .bf16) (x2 : Vec Ideal S16x4096 .bf16) (x3 : Vec Ideal S3x2048 .f32)
    (r : Fin 256) (e : Fin 2048) : EReal :=
  let p : Fin 256 → EReal := fun r =>
    x1 (ix2 r ⟨2048 + e.val, by omega⟩) * x1 (ix2 r ⟨4096 + e.val, by omega⟩)
  let h : Fin 16 → EReal := fun j =>
    x2 (ix2 j ⟨e.val, by omega⟩) * x2 (ix2 j ⟨2048 + e.val, by omega⟩) * k
  x1 (ix2 r ⟨e.val, by omega⟩)
    * (x3 (ix2 0 e) * (if r.val = 0 then h 14 else if r.val = 1 then h 15 else p ⟨(r.val + 256 - 2) % 256, Nat.mod_lt _ (by decide)⟩)
      + x3 (ix2 1 e) * (if r.val = 0 then h 15 else p ⟨(r.val + 256 - 1) % 256, Nat.mod_lt _ (by decide)⟩)
      + x3 (ix2 2 e) * p r)

theorem chunk_apply (k : Ideal .f32) (cb cc cx : Vec Ideal S256x256 .bf16) (h1 h2 : Vec Ideal S16x256 .bf16)
    (w0 w1 w2 : Vec Ideal S1x256 .f32) (r : Fin 256) (l : Fin 256) :
    chunk k cb cc cx h1 h2 w0 w1 w2 (ix2 r l)
      = cb (ix2 r l)
        * (w0 (ix2 0 l) * (if r.val = 0 then h1 (ix2 14 l) * h2 (ix2 14 l) * k
              else if r.val = 1 then h1 (ix2 15 l) * h2 (ix2 15 l) * k
              else cc (ix2 ⟨(r.val + 256 - 2) % 256, Nat.mod_lt _ (by decide)⟩ l) * cx (ix2 ⟨(r.val + 256 - 2) % 256, Nat.mod_lt _ (by decide)⟩ l))
          + w1 (ix2 0 l) * (if r.val = 0 then h1 (ix2 15 l) * h2 (ix2 15 l) * k
              else cc (ix2 ⟨(r.val + 256 - 1) % 256, Nat.mod_lt _ (by decide)⟩ l) * cx (ix2 ⟨(r.val + 256 - 1) % 256, Nat.mod_lt _ (by decide)⟩ l))
          + w2 (ix2 0 l) * (cc (ix2 r l) * cx (ix2 r l))) := by
  pointwise [chunk, k0_pay12, k0_pay11]
  rw [select_word r 0 (by decide), select_word r 1 (by decide), select_word r 0 (by decide)]

/-- A load of part of a block of two axes, read at an index. -/
theorem ld_ix2 {M N a b p q : ℕ} {e : EltTy} (X : Vec Ideal (⟨2, ![M, N]⟩ : Shape) e)
    (inb : ∀ d, (![p, q] : Fin 2 → ℕ) d + (![a, b] : Fin 2 → ℕ) d ≤ (⟨2, ![M, N]⟩ : Shape).size d)
    (r : Fin a) (l : Fin b) (i : Fin M) (j : Fin N) (hi : i.val = p + r.val) (hj : j.val = q + l.val) :
    View.ld X (Rect.unit (s := ⟨2, ![M, N]⟩) ![p, q] ![a, b] inb) (ix2 r l) = X (ix2 i j) :=
  View.ld_unit_apply_of X _ _ inb _ _ fun d => by
    match d with
    | ⟨0, _⟩ => exact hi
    | ⟨1, _⟩ => exact hj

/-- The chunk of the channels from `o` on is the gated convolution there. -/
theorem chunk_ld (o : ℕ) (ho : o + 256 ≤ 2048) (k : EReal) (x1 : Vec Ideal S256x6144 .bf16) (x2 : Vec Ideal S16x4096 .bf16)
    (x3 : Vec Ideal S3x2048 .f32) (i0) (i1) (i2) (i3) (i4) (i5) (i6) (i7) (x : S256x256.Idx) (iy) :
    chunk k (View.ld x1 (Rect.unit (s := S256x6144) ![0, o] ![256, 256] i0))
        (View.ld x1 (Rect.unit (s := S256x6144) ![0, 2048 + o] ![256, 256] i1)) (View.ld x1 (Rect.unit (s := S256x6144) ![0, 4096 + o] ![256, 256] i2))
        (View.ld x2 (Rect.unit (s := S16x4096) ![0, o] ![16, 256] i3)) (View.ld x2 (Rect.unit (s := S16x4096) ![0, 2048 + o] ![16, 256] i4))
        (View.ld x3 (Rect.unit (s := S3x2048) ![0, o] ![1, 256] i5)) (View.ld x3 (Rect.unit (s := S3x2048) ![1, o] ![1, 256] i6))
        (View.ld x3 (Rect.unit (s := S3x2048) ![2, o] ![1, 256] i7)) x
      = (fun y : S256x2048.Idx => conv k x1 x2 x3 (y 0) (y 1)) ((Rect.unit (s := S256x2048) ![0, o] ![256, 256] iy).emb x) := by
  obtain ⟨r, l, rfl⟩ : ∃ (r : Fin 256) (l : Fin 256), x = ix2 r l := ⟨x 0, x 1, by funext a; match a with | ⟨0, _⟩ => rfl | ⟨1, _⟩ => rfl⟩
  have hl := l.isLt
  have h0 : ((Rect.unit (s := S256x2048) ![0, o] ![256, 256] iy).emb (ix2 r l)) 0 = r :=
    Fin.ext (by show 0 + 1 * r.val = r.val; omega)
  have h1 : ((Rect.unit (s := S256x2048) ![0, o] ![256, 256] iy).emb (ix2 r l)) 1 = (⟨o + l.val, by omega⟩ : Fin 2048) :=
    Fin.ext (by show o + 1 * l.val = o + l.val; omega)
  show _ = conv k x1 x2 x3 _ _
  rw [h0, h1, chunk_apply]
  unfold conv
  dsimp only
  rw [ld_ix2 x1 i0 r l r ⟨o + l.val, by omega⟩ (by omega) rfl]
  simp only [ld_ix2 x1 i1 _ l _ ⟨2048 + (o + l.val), by omega⟩ (Nat.zero_add _).symm (by simp; omega),
    ld_ix2 x1 i2 _ l _ ⟨4096 + (o + l.val), by omega⟩ (Nat.zero_add _).symm (by simp; omega),
    ld_ix2 x2 i3 _ l _ ⟨o + l.val, by omega⟩ (Nat.zero_add _).symm rfl,
    ld_ix2 x2 i4 _ l _ ⟨2048 + (o + l.val), by omega⟩ (Nat.zero_add _).symm (by simp; omega),
    ld_ix2 x3 i5 0 l 0 ⟨o + l.val, by omega⟩ rfl rfl, ld_ix2 x3 i6 0 l 1 ⟨o + l.val, by omega⟩ rfl rfl,
    ld_ix2 x3 i7 0 l 2 ⟨o + l.val, by omega⟩ rfl rfl]

end Cert.MixIdeal.Body

end
-- ==== Proof.MixBlock.lean ====
/-
  What one grid point of the mix kernel leaves in its two output blocks, as functions of the point's input blocks.

  The eight chunks of the gated convolution tile the scratch block, so the block read back is `conv` at every index;
  the two stored blocks are then the kernel's own expressions of that block and of the loads.
-/
module

public import proofs.«01_k».proof.Proof.MixConv

@[expose] public section

set_option maxRecDepth 16384

noncomputable section

namespace Cert.MixIdeal.Body

open Idealize.ShloMosaic Idealize.ShloMosaic.TcCoe Idealize.ShloMosaic.Tactic
open Idealize.ShloMosaic.Pipeline (Dat Cfg Window)
open Cert.MixIdeal.Gen

/-- Eight chunks of 256 channels that all agree with one function of the block's index, stored one after the other and
    read back whole, are that function. -/
theorem scratch_read {sig : RefSig} {κ : Kind} {sp : Space} (v : View sig κ sp S256x2048 .bf16) (G : Vec Ideal S256x2048 .bf16)
    (p0 p1 p2 p3 p4 p5 p6 p7 : Vec Ideal S256x256 .bf16)
    (i0 : ∀ d, (![0, 0] : Fin 2 → ℕ) d + (![256, 256] : Fin 2 → ℕ) d ≤ S256x2048.size d)
    (i1 : ∀ d, (![0, 256] : Fin 2 → ℕ) d + (![256, 256] : Fin 2 → ℕ) d ≤ S256x2048.size d)
    (i2 : ∀ d, (![0, 512] : Fin 2 → ℕ) d + (![256, 256] : Fin 2 → ℕ) d ≤ S256x2048.size d)
    (i3 : ∀ d, (![0, 768] : Fin 2 → ℕ) d + (![256, 256] : Fin 2 → ℕ) d ≤ S256x2048.size d)
    (i4 : ∀ d, (![0, 1024] : Fin 2 → ℕ) d + (![256, 256] : Fin 2 → ℕ) d ≤ S256x2048.size d)
    (i5 : ∀ d, (![0, 1280] : Fin 2 → ℕ) d + (![256, 256] : Fin 2 → ℕ) d ≤ S256x2048.size d)
    (i6 : ∀ d, (![0, 1536] : Fin 2 → ℕ) d + (![256, 256] : Fin 2 → ℕ) d ≤ S256x2048.size d)
    (i7 : ∀ d, (![0, 1792] : Fin 2 → ℕ) d + (![256, 256] : Fin 2 → ℕ) d ≤ S256x2048.size d)
    (iw : ∀ d, (![0, 0] : Fin 2 → ℕ) d + (![256, 2048] : Fin 2 → ℕ) d ≤ S256x2048.size d)
    (h0 : ∀ x, p0 x = G ((Rect.unit (s := S256x2048) ![0, 0] ![256, 256] i0).emb x))
    (h1 : ∀ x, p1 x = G ((Rect.unit (s := S256x2048) ![0, 256] ![256, 256] i1).emb x))
    (h2 : ∀ x, p2 x = G ((Rect.unit (s := S256x2048) ![0, 512] ![256, 256] i2).emb x))
    (h3 : ∀ x, p3 x = G ((Rect.unit (s := S256x2048) ![0, 768] ![256, 256] i3).emb x))
    (h4 : ∀ x, p4 x = G ((Rect.unit (s := S256x2048) ![0, 1024] ![256, 256] i4).emb x))
    (h5 : ∀ x, p5 x = G ((Rect.unit (s := S256x2048) ![0, 1280] ![256, 256] i5).emb x))
    (h6 : ∀ x, p6 x = G ((Rect.unit (s := S256x2048) ![0, 1536] ![256, 256] i6).emb x))
    (h7 : ∀ x, p7 x = G ((Rect.unit (s := S256x2048) ![0, 1792] ![256, 256] i7).emb x)) :
    v.readCov (Val := Elt Ideal) [⟨Rect.unit (s := S256x2048) ![0, 1792] ![256, 256] i7, p7⟩, ⟨Rect.unit (s := S256x2048) ![0, 1536] ![256, 256] i6, p6⟩, ⟨Rect.unit (s := S256x2048) ![0, 1280] ![256, 256] i5, p5⟩, ⟨Rect.unit (s := S256x2048) ![0, 1024] ![256, 256] i4, p4⟩, ⟨Rect.unit (s := S256x2048) ![0, 768] ![256, 256] i3, p3⟩, ⟨Rect.unit (s := S256x2048) ![0, 512] ![256, 256] i2, p2⟩, ⟨Rect.unit (s := S256x2048) ![0, 256] ![256, 256] i1, p1⟩, ⟨Rect.unit (s := S256x2048) ![0, 0] ![256, 256] i0, p0⟩]
      (Rect.unit (s := S256x2048) ![0, 0] ![256, 2048] iw).toLoadRect = G := by
  have cover : ∀ y : S256x2048.Idx, ∃ p ∈ ([⟨Rect.unit (s := S256x2048) ![0, 1792] ![256, 256] i7, p7⟩, ⟨Rect.unit (s := S256x2048) ![0, 1536] ![256, 256] i6, p6⟩, ⟨Rect.unit (s := S256x2048) ![0, 1280] ![256, 256] i5, p5⟩, ⟨Rect.unit (s := S256x2048) ![0, 1024] ![256, 256] i4, p4⟩, ⟨Rect.unit (s := S256x2048) ![0, 768] ![256, 256] i3, p3⟩, ⟨Rect.unit (s := S256x2048) ![0, 512] ![256, 256] i2, p2⟩, ⟨Rect.unit (s := S256x2048) ![0, 256] ![256, 256] i1, p1⟩, ⟨Rect.unit (s := S256x2048) ![0, 0] ![256, 256] i0, p0⟩] : List (View.Piece (Elt Ideal) S256x2048 .bf16)), y ∈ p.1.set :=
    fun y => View.cover_of_tiledL (s := S256x2048) _ ![256, 256] (by sl_kernel_rfl) y
  rw [View.readCov_eq_canon_ld _ _ _ cover]
  refine (View.ld_unit_zero (S := S256x2048) (by funext a; match a with | ⟨0, _⟩ => rfl | ⟨1, _⟩ => rfl) iw _).trans ?_
  funext y
  refine View.canon_apply_of_pieces G _ (fun p hp => ?_) y (cover y)
  simp only [List.mem_cons, List.not_mem_nil, or_false] at hp
  rcases hp with rfl | rfl | rfl | rfl | rfl | rfl | rfl | rfl
  · exact h7
  · exact h6
  · exact h5
  · exact h4
  · exact h3
  · exact h2
  · exact h1
  · exact h0

variable (m : (ℓ : Loc nD τ sig) → Buf (Elt Ideal) ℓ)

/-- The gated convolution of the point's whole block. -/
def cbu (c : Dev nD) (t : Fin cfg0.N) : Vec Ideal S256x2048 .bf16 := fun y =>
  conv (k0_pay3 (F := Ideal) (grid0.coords t)) (X0_1 m c t) (iblk m c 2 t) (iblk m c 3 t) (y 0) (y 1)

/-- The first output's block: the residual stream after the merged branches. -/
def res (c : Dev nD) (t : Fin cfg0.N) : Vec Ideal S256x2048 .f32 :=
  k0_pay36 (F := Ideal) (k0_pay2 (iblk m c 0 t) (iblk m c 5 t)) (cbu m c t) (iblk m c 6 t)
    (View.ld (iblk m c 4 t) (Rect.unit (s := S256x4096) ![0, 0] ![256, 2048] inb_S256x4096_S256x2048_0_0))
    (View.ld (iblk m c 4 t) (Rect.unit (s := S256x4096) ![0, 2048] ![256, 2048] inb_S256x4096_S256x2048_0_2048))
    (iblk m c 8 t) (iblk m c 7 t)

theorem zeros2 : (![0, 0] : Fin 2 → ℕ) = fun _ => 0 := by funext a; match a with | ⟨0, _⟩ => rfl | ⟨1, _⟩ => rfl

set_option maxHeartbeats 4000000 in
theorem out10 (c : Dev nD) (t : Fin cfg0.N) : (outsAt0 m c t).1 = res m c t := by
  unfold outsAt0; dsimp only; unfold out0_A_10
  rw [View.read_writes_eq_canon _ _ _ (cover0_A_10 c _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rw [View.canon_unit_zero zeros2]
  rw [scratch_read (G := cbu m c t)]
  · rw [View.ld_unit_zero zeros2, View.ld_unit_zero zeros2, View.ld_unit_zero zeros2, View.ld_unit_zero zeros2, View.ld_unit_zero zeros2]
    rfl
  · exact fun x => chunk_ld 0 (by decide) _ _ _ _ inb_S256x6144_S256x256_0_0 inb_S256x6144_S256x256_0_2048 inb_S256x6144_S256x256_0_4096 inb_S16x4096_S16x256_0_0 inb_S16x4096_S16x256_0_2048 inb_S3x2048_S1x256_0_0 inb_S3x2048_S1x256_1_0 inb_S3x2048_S1x256_2_0 x _
  · exact fun x => chunk_ld 256 (by decide) _ _ _ _ inb_S256x6144_S256x256_0_256 inb_S256x6144_S256x256_0_2304 inb_S256x6144_S256x256_0_4352 inb_S16x4096_S16x256_0_256 inb_S16x4096_S16x256_0_2304 inb_S3x2048_S1x256_0_256 inb_S3x2048_S1x256_1_256 inb_S3x2048_S1x256_2_256 x _
  · exact fun x => chunk_ld 512 (by decide) _ _ _ _ inb_S256x6144_S256x256_0_512 inb_S256x6144_S256x256_0_2560 inb_S256x6144_S256x256_0_4608 inb_S16x4096_S16x256_0_512 inb_S16x4096_S16x256_0_2560 inb_S3x2048_S1x256_0_512 inb_S3x2048_S1x256_1_512 inb_S3x2048_S1x256_2_512 x _
  · exact fun x => chunk_ld 768 (by decide) _ _ _ _ inb_S256x6144_S256x256_0_768 inb_S256x6144_S256x256_0_2816 inb_S256x6144_S256x256_0_4864 inb_S16x4096_S16x256_0_768 inb_S16x4096_S16x256_0_2816 inb_S3x2048_S1x256_0_768 inb_S3x2048_S1x256_1_768 inb_S3x2048_S1x256_2_768 x _
  · exact fun x => chunk_ld 1024 (by decide) _ _ _ _ inb_S256x6144_S256x256_0_1024 inb_S256x6144_S256x256_0_3072 inb_S256x6144_S256x256_0_5120 inb_S16x4096_S16x256_0_1024 inb_S16x4096_S16x256_0_3072 inb_S3x2048_S1x256_0_1024 inb_S3x2048_S1x256_1_1024 inb_S3x2048_S1x256_2_1024 x _
  · exact fun x => chunk_ld 1280 (by decide) _ _ _ _ inb_S256x6144_S256x256_0_1280 inb_S256x6144_S256x256_0_3328 inb_S256x6144_S256x256_0_5376 inb_S16x4096_S16x256_0_1280 inb_S16x4096_S16x256_0_3328 inb_S3x2048_S1x256_0_1280 inb_S3x2048_S1x256_1_1280 inb_S3x2048_S1x256_2_1280 x _
  · exact fun x => chunk_ld 1536 (by decide) _ _ _ _ inb_S256x6144_S256x256_0_1536 inb_S256x6144_S256x256_0_3584 inb_S256x6144_S256x256_0_5632 inb_S16x4096_S16x256_0_1536 inb_S16x4096_S16x256_0_3584 inb_S3x2048_S1x256_0_1536 inb_S3x2048_S1x256_1_1536 inb_S3x2048_S1x256_2_1536 x _
  · exact fun x => chunk_ld 1792 (by decide) _ _ _ _ inb_S256x6144_S256x256_0_1792 inb_S256x6144_S256x256_0_3840 inb_S256x6144_S256x256_0_5888 inb_S16x4096_S16x256_0_1792 inb_S16x4096_S16x256_0_3840 inb_S3x2048_S1x256_0_1792 inb_S3x2048_S1x256_1_1792 inb_S3x2048_S1x256_2_1792 x _

/-- The second output's block: the first one under its root-mean-square norm. -/
def nrm (c : Dev nD) (t : Fin cfg0.N) : Vec Ideal S256x2048 .bf16 :=
  k0_pay1 (F := Ideal) (res m c t)
    (k0_pay37 (k0_pay2 (iblk m c 0 t) (iblk m c 5 t)) (cbu m c t) (iblk m c 6 t)
      (View.ld (iblk m c 4 t) (Rect.unit (s := S256x4096) ![0, 0] ![256, 2048] inb_S256x4096_S256x2048_0_0))
      (View.ld (iblk m c 4 t) (Rect.unit (s := S256x4096) ![0, 2048] ![256, 2048] inb_S256x4096_S256x2048_0_2048))
      (iblk m c 8 t) (iblk m c 7 t))
    (iblk m c 9 t)

set_option maxHeartbeats 4000000 in
theorem out11 (c : Dev nD) (t : Fin cfg0.N) : (outsAt0 m c t).2 = nrm m c t := by
  unfold outsAt0; dsimp only; unfold out0_A_11
  rw [View.read_writes_eq_canon _ _ _ (cover0_A_11 c _ _ _ _ _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rw [View.canon_unit_zero zeros2]
  rw [scratch_read (G := cbu m c t)]
  · rw [View.ld_unit_zero zeros2, View.ld_unit_zero zeros2, View.ld_unit_zero zeros2, View.ld_unit_zero zeros2, View.ld_unit_zero zeros2, View.ld_unit_zero zeros2]
    rfl
  · exact fun x => chunk_ld 0 (by decide) _ _ _ _ inb_S256x6144_S256x256_0_0 inb_S256x6144_S256x256_0_2048 inb_S256x6144_S256x256_0_4096 inb_S16x4096_S16x256_0_0 inb_S16x4096_S16x256_0_2048 inb_S3x2048_S1x256_0_0 inb_S3x2048_S1x256_1_0 inb_S3x2048_S1x256_2_0 x _
  · exact fun x => chunk_ld 256 (by decide) _ _ _ _ inb_S256x6144_S256x256_0_256 inb_S256x6144_S256x256_0_2304 inb_S256x6144_S256x256_0_4352 inb_S16x4096_S16x256_0_256 inb_S16x4096_S16x256_0_2304 inb_S3x2048_S1x256_0_256 inb_S3x2048_S1x256_1_256 inb_S3x2048_S1x256_2_256 x _
  · exact fun x => chunk_ld 512 (by decide) _ _ _ _ inb_S256x6144_S256x256_0_512 inb_S256x6144_S256x256_0_2560 inb_S256x6144_S256x256_0_4608 inb_S16x4096_S16x256_0_512 inb_S16x4096_S16x256_0_2560 inb_S3x2048_S1x256_0_512 inb_S3x2048_S1x256_1_512 inb_S3x2048_S1x256_2_512 x _
  · exact fun x => chunk_ld 768 (by decide) _ _ _ _ inb_S256x6144_S256x256_0_768 inb_S256x6144_S256x256_0_2816 inb_S256x6144_S256x256_0_4864 inb_S16x4096_S16x256_0_768 inb_S16x4096_S16x256_0_2816 inb_S3x2048_S1x256_0_768 inb_S3x2048_S1x256_1_768 inb_S3x2048_S1x256_2_768 x _
  · exact fun x => chunk_ld 1024 (by decide) _ _ _ _ inb_S256x6144_S256x256_0_1024 inb_S256x6144_S256x256_0_3072 inb_S256x6144_S256x256_0_5120 inb_S16x4096_S16x256_0_1024 inb_S16x4096_S16x256_0_3072 inb_S3x2048_S1x256_0_1024 inb_S3x2048_S1x256_1_1024 inb_S3x2048_S1x256_2_1024 x _
  · exact fun x => chunk_ld 1280 (by decide) _ _ _ _ inb_S256x6144_S256x256_0_1280 inb_S256x6144_S256x256_0_3328 inb_S256x6144_S256x256_0_5376 inb_S16x4096_S16x256_0_1280 inb_S16x4096_S16x256_0_3328 inb_S3x2048_S1x256_0_1280 inb_S3x2048_S1x256_1_1280 inb_S3x2048_S1x256_2_1280 x _
  · exact fun x => chunk_ld 1536 (by decide) _ _ _ _ inb_S256x6144_S256x256_0_1536 inb_S256x6144_S256x256_0_3584 inb_S256x6144_S256x256_0_5632 inb_S16x4096_S16x256_0_1536 inb_S16x4096_S16x256_0_3584 inb_S3x2048_S1x256_0_1536 inb_S3x2048_S1x256_1_1536 inb_S3x2048_S1x256_2_1536 x _
  · exact fun x => chunk_ld 1792 (by decide) _ _ _ _ inb_S256x6144_S256x256_0_1792 inb_S256x6144_S256x256_0_3840 inb_S256x6144_S256x256_0_5888 inb_S16x4096_S16x256_0_1792 inb_S16x4096_S16x256_0_3840 inb_S3x2048_S1x256_0_1792 inb_S3x2048_S1x256_1_1792 inb_S3x2048_S1x256_2_1792 x _

/-! ## Read at an index -/

/-- The merged branches of one row and channel: `a`, `b` are the two branches' gates, `cb` the gated convolution. -/
def merged (x0 : FVec Ideal S256x2048 .bf16) (a b : FVec Ideal S256x2048 .bf16) (x5 x6 : FVec Ideal S2048x2048 .bf16)
    (cb : FVec Ideal S256x2048 .bf16) (r : Fin 256) (e : Fin 2048) : EReal :=
  Ideal.logistic (a (ix2 r e)) * (∑ k : Fin 2048, x0 (ix2 r k) * x5 (ix2 k e))
    + Ideal.logistic (b (ix2 r e)) * (∑ k : Fin 2048, cb (ix2 r k) * x6 (ix2 k e))

theorem pay_res (x0 a b : FVec Ideal S256x2048 .bf16) (x5 x6 x7 : FVec Ideal S2048x2048 .bf16) (cb : FVec Ideal S256x2048 .bf16)
    (x8 : FVec Ideal S256x2048 .f32) (r : Fin 256) (d : Fin 2048) :
    k0_pay36 (F := Ideal) (k0_pay2 x0 x5) cb x6 a b x8 x7 (ix2 r d)
      = x8 (ix2 r d) + ∑ e : Fin 2048, merged x0 a b x5 x6 cb r e * x7 (ix2 e d) := by
  unfold merged
  pointwise [k0_pay36, k0_pay2]

theorem pay_nrm (z : FVec Ideal S256x2048 .f32) (g : FVec Ideal S1x2048 .f32) (r : Fin 256) (d : Fin 2048) :
    k0_pay1 (F := Ideal) z (multiReduction .add [1] S256 (mulf z z) 0x00000000#32 reduces_S256x2048_S256 (.inl rfl) rfl) g (ix2 r d)
      = z (ix2 r d) * Ideal.rsqrt (Ideal.div (∑ e : Fin 2048, z (ix2 r e) * z (ix2 r e)) (Ideal.ofBits .f32 0x45000000#32)
            + Ideal.ofBits .f32 0x358637BD#32) * g (ix2 0 d) := by
  pointwise [k0_pay1]

end Cert.MixIdeal.Body

end
-- ==== Proof.MixMath.lean ====
/-
  The mathematics of the mix call, as functions of its arguments: both programs are shown to compute these.

  Row `R` of the 16384 rows is position `R % 2048` of sequence `R / 2048`. The projected array `p` holds, side by side
  from column 6144 on, the convolution's gate, its two factors, and the two branches' gates.
-/
module

public import Idealize.ShloMosaic.Lib.Pointwise

@[expose] public section

noncomputable section

namespace Cert.MixMath

open Idealize.ShloMosaic

/-- The arguments of the call, as arrays of extended reals. -/
structure Args where
  hm : (⟨2, ![16384, 2048]⟩ : Shape).Idx → EReal
  p : (⟨2, ![16384, 16384]⟩ : Shape).Idx → EReal
  cw : (⟨2, ![3, 2048]⟩ : Shape).Idx → EReal
  wa : (⟨2, ![2048, 2048]⟩ : Shape).Idx → EReal
  wb : (⟨2, ![2048, 2048]⟩ : Shape).Idx → EReal
  wo : (⟨2, ![2048, 2048]⟩ : Shape).Idx → EReal
  x : (⟨2, ![16384, 2048]⟩ : Shape).Idx → EReal
  g : (⟨2, ![1, 2048]⟩ : Shape).Idx → EReal

variable (a : Args)

/-- The product the convolution runs over. -/
def prod (R : Fin 16384) (e : Fin 2048) : EReal :=
  a.p (ix2 R ⟨8192 + e.val, by omega⟩) * a.p (ix2 R ⟨10240 + e.val, by omega⟩)

/-- That product `k` positions earlier in the same sequence, zero before the sequence's start. -/
def back (k : ℕ) (R : Fin 16384) (e : Fin 2048) : EReal :=
  if k ≤ R.val % 2048 then prod a ⟨R.val - k, by omega⟩ e else 0

/-- The gated causal convolution of three taps. -/
def conv (R : Fin 16384) (e : Fin 2048) : EReal :=
  a.p (ix2 R ⟨6144 + e.val, by omega⟩)
    * (a.cw (ix2 0 e) * back a 2 R e + a.cw (ix2 1 e) * back a 1 R e + a.cw (ix2 2 e) * prod a R e)

/-- The two branches, each projected and gated, added. -/
def merged (R : Fin 16384) (e : Fin 2048) : EReal :=
  Ideal.logistic (a.p (ix2 R ⟨12288 + e.val, by omega⟩)) * (∑ k : Fin 2048, a.hm (ix2 R k) * a.wa (ix2 k e))
    + Ideal.logistic (a.p (ix2 R ⟨14336 + e.val, by omega⟩)) * (∑ k : Fin 2048, conv a R k * a.wb (ix2 k e))

/-- The residual stream after the merged branches' output projection. -/
def res (R : Fin 16384) (d : Fin 2048) : EReal :=
  a.x (ix2 R d) + ∑ e : Fin 2048, merged a R e * a.wo (ix2 e d)

/-- Its root-mean-square norm. -/
def nrm (R : Fin 16384) (d : Fin 2048) : EReal :=
  res a R d * Ideal.rsqrt (Ideal.div (∑ e : Fin 2048, res a R e * res a R e) (Ideal.ofBits .f32 0x45000000#32)
      + Ideal.ofBits .f32 0x358637BD#32) * a.g (ix2 0 d)

end Cert.MixMath

end
-- ==== Proof.MixArray.lean ====
/-
  The mix kernel's two result arrays: each grid point writes 256 rows, and every element is `MixMath.res` / `MixMath.nrm`
  of the argument arrays.
-/
module

public import proofs.«01_k».proof.Proof.MixBlock
public import proofs.«01_k».proof.Proof.MixMath

@[expose] public section

set_option maxRecDepth 16384

noncomputable section

namespace Cert.MixIdeal.Body

open Idealize.ShloMosaic Idealize.ShloMosaic.TcCoe Idealize.ShloMosaic.Tactic
open Idealize.SL.Sem
open Idealize.ShloMosaic.Pipeline (Dat Cfg Window)
open Cert.MixIdeal.Gen

variable (m : (ℓ : Loc nD τ sig) → Buf (Elt Ideal) ℓ)

/-- The argument arrays of device `c`. -/
def args (c : Dev nD) : MixMath.Args where
  hm := m ((c : Thread nD τ).loc main_arg0)
  p := m ((c : Thread nD τ).loc main_arg1)
  cw := m ((c : Thread nD τ).loc main_arg2)
  wa := m ((c : Thread nD τ).loc main_arg3)
  wb := m ((c : Thread nD τ).loc main_arg4)
  wo := m ((c : Thread nD τ).loc main_arg5)
  x := m ((c : Thread nD τ).loc main_arg6)
  g := m ((c : Thread nD τ).loc main_arg7)

theorem lt64 (t : Fin cfg0.N) : t.val < 64 := by have := t.isLt; have h : cfg0.N = 64 := N_0; omega

/-- Row `r` of point `t`'s block of rows. -/
def row (t : Fin cfg0.N) (r : Fin 256) : Fin 16384 := ⟨256 * t.val + r.val, by have := lt64 t; omega⟩

/-! ## Where the blocks lie -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 1 :=
  (by decide +kernel : ∀ t : Fin grid0.N, win0_1.index t 0 = t.val ∧ win0_1.index t 1 = 1)
theorem idx2 : ∀ t : Fin cfg0.N, win0_2.index t 0 = 16 * t.val - 1 ∧ win0_2.index t 1 = 2 :=
  (by decide +kernel : ∀ t : Fin grid0.N, win0_2.index t 0 = 16 * t.val - 1 ∧ win0_2.index t 1 = 2)
theorem idx4 : ∀ t : Fin cfg0.N, win0_4.index t 0 = t.val ∧ win0_4.index t 1 = 3 :=
  (by decide +kernel : ∀ t : Fin grid0.N, win0_4.index t 0 = t.val ∧ win0_4.index t 1 = 3)
theorem idx8 : ∀ t : Fin cfg0.N, win0_8.index t 0 = t.val ∧ win0_8.index t 1 = 0 :=
  (by decide +kernel : ∀ t : Fin grid0.N, win0_8.index t 0 = t.val ∧ win0_8.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)

/-! ## The blocks, read at an index -/

theorem blk0 (c : Dev nD) (t : Fin cfg0.N) (r : Fin 256) (d : Fin 2048) :
    iblk m c 0 t (ix2 r d) = (args m c).hm (ix2 (row t r) d) := by
  have e := idx0 t
  refine congrArg (args m c).hm (funext fun a => Fin.ext ?_)
  match a with
  | ⟨0, _⟩ => show win0_0.index t 0 * 256 + 1 * r.val = 256 * t.val + r.val; rw [e.1]; omega
  | ⟨1, _⟩ => show win0_0.index t 1 * 2048 + 1 * d.val = d.val; rw [e.2]; omega

theorem blk1 (c : Dev nD) (t : Fin cfg0.N) (r : Fin 256) (q : Fin 6144) :
    X0_1 m c t (ix2 r q) = (args m c).p (ix2 (row t r) ⟨6144 + q.val, by omega⟩) := by
  have e := idx1 t
  unfold X0_1 Pipeline.Window.fill
  rw [dif_pos (moved0_1 t _)]
  refine congrArg (args m c).p (funext fun a => Fin.ext ?_)
  match a with
  | ⟨0, _⟩ => show win0_1.index t 0 * 256 + 1 * r.val = 256 * t.val + r.val; rw [e.1]; omega
  | ⟨1, _⟩ => show win0_1.index t 1 * 6144 + 1 * q.val = 6144 + q.val; rw [e.2]; omega

/-- The projected array at equal columns. -/
theorem col (c : Dev nD) (R : Fin 16384) {q q' : Fin 16384} (h : q.val = q'.val) :
    (args m c).p (ix2 R q) = (args m c).p (ix2 R q') := by rw [Fin.ext h]

/-- The sixteen rows before the block. -/
theorem blk2 (c : Dev nD) (t : Fin cfg0.N) (h : 0 < t.val) (j : Fin 16) (q : Fin 4096) (R : Fin 16384) (hR : R.val + 16 = 256 * t.val + j.val) :
    iblk m c 2 t (ix2 j q) = (args m c).p (ix2 R ⟨8192 + q.val, by omega⟩) := by
  have e := idx2 t
  refine congrArg (args m c).p (funext fun a => Fin.ext ?_)
  match a with
  | ⟨0, _⟩ => show win0_2.index t 0 * 16 + 1 * j.val = R.val; rw [e.1]; omega
  | ⟨1, _⟩ => show win0_2.index t 1 * 4096 + 1 * q.val = 8192 + q.val; rw [e.2]; omega

theorem blk4 (c : Dev nD) (t : Fin cfg0.N) (r : Fin 256) (q : Fin 4096) :
    iblk m c 4 t (ix2 r q) = (args m c).p (ix2 (row t r) ⟨12288 + q.val, by omega⟩) := by
  have e := idx4 t
  refine congrArg (args m c).p (funext fun a => Fin.ext ?_)
  match a with
  | ⟨0, _⟩ => show win0_4.index t 0 * 256 + 1 * r.val = 256 * t.val + r.val; rw [e.1]; omega
  | ⟨1, _⟩ => show win0_4.index t 1 * 4096 + 1 * q.val = 12288 + q.val; rw [e.2]; omega

theorem blk8 (c : Dev nD) (t : Fin cfg0.N) (r : Fin 256) (d : Fin 2048) :
    iblk m c 8 t (ix2 r d) = (args m c).x (ix2 (row t r) d) := by
  have e := idx8 t
  refine congrArg (args m c).x (funext fun a => Fin.ext ?_)
  match a with
  | ⟨0, _⟩ => show win0_8.index t 0 * 256 + 1 * r.val = 256 * t.val + r.val; rw [e.1]; omega
  | ⟨1, _⟩ => show win0_8.index t 1 * 2048 + 1 * d.val = d.val; rw [e.2]; omega

/-- The blocks that are whole arrays. -/
theorem blk3 (c : Dev nD) (t : Fin cfg0.N) (j : Fin 3) (d : Fin 2048) : iblk m c 3 t (ix2 j d) = (args m c).cw (ix2 j d) :=
  congrArg (args m c).cw (funext fun a => Fin.ext (by match a with
    | ⟨0, _⟩ => show 0 * 3 + 1 * j.val = j.val; omega
    | ⟨1, _⟩ => show 0 * 2048 + 1 * d.val = d.val; omega))
theorem blk5 (c : Dev nD) (t : Fin cfg0.N) (j d : Fin 2048) : iblk m c 5 t (ix2 j d) = (args m c).wa (ix2 j d) :=
  congrArg (args m c).wa (funext fun a => Fin.ext (by match a with
    | ⟨0, _⟩ => show 0 * 2048 + 1 * j.val = j.val; omega
    | ⟨1, _⟩ => show 0 * 2048 + 1 * d.val = d.val; omega))
theorem blk6 (c : Dev nD) (t : Fin cfg0.N) (j d : Fin 2048) : iblk m c 6 t (ix2 j d) = (args m c).wb (ix2 j d) :=
  congrArg (args m c).wb (funext fun a => Fin.ext (by match a with
    | ⟨0, _⟩ => show 0 * 2048 + 1 * j.val = j.val; omega
    | ⟨1, _⟩ => show 0 * 2048 + 1 * d.val = d.val; omega))
theorem blk7 (c : Dev nD) (t : Fin cfg0.N) (j d : Fin 2048) : iblk m c 7 t (ix2 j d) = (args m c).wo (ix2 j d) :=
  congrArg (args m c).wo (funext fun a => Fin.ext (by match a with
    | ⟨0, _⟩ => show 0 * 2048 + 1 * j.val = j.val; omega
    | ⟨1, _⟩ => show 0 * 2048 + 1 * d.val = d.val; omega))
theorem blk9 (c : Dev nD) (t : Fin cfg0.N) (j : Fin 1) (d : Fin 2048) : iblk m c 9 t (ix2 j d) = (args m c).g (ix2 j d) :=
  congrArg (args m c).g (funext fun a => Fin.ext (by match a with
    | ⟨0, _⟩ => show 0 * 1 + 1 * j.val = j.val; omega
    | ⟨1, _⟩ => show 0 * 2048 + 1 * d.val = d.val; omega))

/-! ## The factor of the halo -/

/-- It is zero at a sequence's first block and one at the others. -/
theorem keep (t : Fin cfg0.N) : k0_pay3 (F := Ideal) (grid0.coords t) = if t.val % 8 = 0 then (0 : EReal) else 1 := by
  have hw : ∀ t : Fin grid0.N, (Scalar.extui
      (Scalar.cmpi .ne (Scalar.select (Scalar.andi (Scalar.xori (Scalar.cmpi .slt (Scalar.remsi (BitVec.ofNat 32 (grid0.coords t 0).val) (Scalar.select (Scalar.cmpi .eq 8#32 0#32) 1#32 8#32)) 0#32)
          (Scalar.cmpi .slt (Scalar.select (Scalar.cmpi .eq 8#32 0#32) 1#32 8#32) 0#32))
            (Scalar.cmpi .ne (Scalar.remsi (BitVec.ofNat 32 (grid0.coords t 0).val) (Scalar.select (Scalar.cmpi .eq 8#32 0#32) 1#32 8#32)) 0#32))
          (Scalar.addi (Scalar.remsi (BitVec.ofNat 32 (grid0.coords t 0).val) (Scalar.select (Scalar.cmpi .eq 8#32 0#32) 1#32 8#32)) (Scalar.select (Scalar.cmpi .eq 8#32 0#32) 1#32 8#32))
          (Scalar.remsi (BitVec.ofNat 32 (grid0.coords t 0).val) (Scalar.select (Scalar.cmpi .eq 8#32 0#32) 1#32 8#32))) 0#32) : BitVec 32).toInt
        = if t.val % 8 = 0 then 0 else 1 := by decide +kernel
  unfold k0_pay3
  show ((((_ : BitVec 32).toInt : ℤ) : ℝ) : EReal) = _
  rw [hw t]
  split <;> simp

/-! ## The block's values are the mathematics at the block's rows -/

/-- The convolved product of the block's row `r`, from the block that holds its two factors. -/
def inner (x1 : Vec Ideal S256x6144 .bf16) (r : Fin 256) (e : Fin 2048) : EReal :=
  x1 (ix2 r ⟨2048 + e.val, by omega⟩) * x1 (ix2 r ⟨4096 + e.val, by omega⟩)
/-- The same product of row `j` of the sixteen rows before the block, scaled. -/
def before (k : EReal) (x2 : Vec Ideal S16x4096 .bf16) (j : Fin 16) (e : Fin 2048) : EReal :=
  x2 (ix2 j ⟨e.val, by omega⟩) * x2 (ix2 j ⟨2048 + e.val, by omega⟩) * k

/-- The halo's product at row `j` of the sixteen, scaled: the product that many rows before the block, or zero at a
    sequence's start. -/
theorem halo (c : Dev nD) (t : Fin cfg0.N) (r : Fin 256) (e : Fin 2048) (k : ℕ) (j : Fin 16) (hk : 0 < k)
    (hj : j.val + k = 16 + r.val) (hr : r.val < k) (hk8 : k ≤ 16) :
    before (k0_pay3 (F := Ideal) (grid0.coords t)) (iblk m c 2 t) j e
      = MixMath.back (args m c) k (row t r) e := by
  have ht := lt64 t
  unfold before MixMath.back MixMath.prod
  rw [keep]
  have hrow : (row t r).val = 256 * t.val + r.val := rfl
  by_cases h : t.val % 8 = 0
  · rw [if_pos h, mul_zero, if_neg (by rw [hrow]; omega)]
  · rw [if_neg h, mul_one, if_pos (by rw [hrow]; omega)]
    rw [blk2 m c t (by omega) j ⟨e.val, by omega⟩ ⟨(row t r).val - k, by omega⟩ (by show (row t r).val - k + 16 = _; rw [hrow]; omega),
      blk2 m c t (by omega) j ⟨2048 + e.val, by omega⟩ ⟨(row t r).val - k, by omega⟩ (by show (row t r).val - k + 16 = _; rw [hrow]; omega)]
    exact congrArg (_ * ·) (col m c _ (by show 8192 + (2048 + e.val) = 10240 + e.val; omega))

/-- A product inside the block. -/
theorem inside (c : Dev nD) (t : Fin cfg0.N) (r : Fin 256) (e : Fin 2048) :
    inner (X0_1 m c t) r e
      = MixMath.prod (args m c) (row t r) e := by
  unfold inner MixMath.prod
  rw [blk1, blk1]
  exact congrArg₂ (· * ·) (col m c _ (by show 6144 + (2048 + e.val) = 8192 + e.val; omega))
    (col m c _ (by show 6144 + (4096 + e.val) = 10240 + e.val; omega))

/-- and the one `k` rows earlier, still inside the block. -/
theorem inside_back (c : Dev nD) (t : Fin cfg0.N) (r r' : Fin 256) (e : Fin 2048) (k : ℕ) (hr : r'.val + k = r.val) :
    inner (X0_1 m c t) r' e
      = MixMath.back (args m c) k (row t r) e := by
  have ht := lt64 t
  have hrow : (row t r).val = 256 * t.val + r.val := rfl
  rw [inside]
  unfold MixMath.back
  rw [if_pos (by rw [hrow]; omega)]
  congr 1
  exact Fin.ext (by show 256 * t.val + r'.val = (row t r).val - k; rw [hrow]; omega)

theorem conv_eq (c : Dev nD) (t : Fin cfg0.N) (r : Fin 256) (e : Fin 2048) :
    cbu m c t (ix2 r e) = MixMath.conv (args m c) (row t r) e := by
  show conv (k0_pay3 (F := Ideal) (grid0.coords t)) (X0_1 m c t) (iblk m c 2 t) (iblk m c 3 t) r e = _
  have hr := r.isLt
  have h2 : (if r.val = 0 then before (k0_pay3 (F := Ideal) (grid0.coords t)) (iblk m c 2 t) 14 e
        else if r.val = 1 then before (k0_pay3 (F := Ideal) (grid0.coords t)) (iblk m c 2 t) 15 e
        else inner (X0_1 m c t) ⟨(r.val + 256 - 2) % 256, Nat.mod_lt _ (by decide)⟩ e)
      = MixMath.back (args m c) 2 (row t r) e := by
    split
    · exact halo m c t r e 2 14 (by decide) (by show 14 + 2 = 16 + r.val; omega) (by omega) (by decide)
    · split
      · exact halo m c t r e 2 15 (by decide) (by show 15 + 2 = 16 + r.val; omega) (by omega) (by decide)
      · exact inside_back m c t r _ e 2 (by show (r.val + 256 - 2) % 256 + 2 = r.val; omega)
  have h1 : (if r.val = 0 then before (k0_pay3 (F := Ideal) (grid0.coords t)) (iblk m c 2 t) 15 e
        else inner (X0_1 m c t) ⟨(r.val + 256 - 1) % 256, Nat.mod_lt _ (by decide)⟩ e)
      = MixMath.back (args m c) 1 (row t r) e := by
    split
    · exact halo m c t r e 1 15 (by decide) (by show 15 + 1 = 16 + r.val; omega) (by omega) (by decide)
    · exact inside_back m c t r _ e 1 (by show (r.val + 256 - 1) % 256 + 1 = r.val; omega)
  unfold MixMath.conv
  rw [← h2, ← h1, ← inside, ← blk3 m c t, ← blk3 m c t, ← blk3 m c t, ← blk1 m c t r ⟨e.val, by omega⟩]
  rfl

theorem merged_eq (c : Dev nD) (t : Fin cfg0.N) (r : Fin 256) (e : Fin 2048) :
    merged (iblk m c 0 t) (View.ld (iblk m c 4 t) (Rect.unit (s := S256x4096) ![0, 0] ![256, 2048] inb_S256x4096_S256x2048_0_0))
        (View.ld (iblk m c 4 t) (Rect.unit (s := S256x4096) ![0, 2048] ![256, 2048] inb_S256x4096_S256x2048_0_2048))
        (iblk m c 5 t) (iblk m c 6 t) (cbu m c t) r e
      = MixMath.merged (args m c) (row t r) e := by
  unfold merged MixMath.merged
  have ha : View.ld (iblk m c 4 t) (Rect.unit (s := S256x4096) ![0, 0] ![256, 2048] inb_S256x4096_S256x2048_0_0) (ix2 r e)
      = (args m c).p (ix2 (row t r) ⟨12288 + e.val, by omega⟩) :=
    (ld_ix2 (iblk m c 4 t) inb_S256x4096_S256x2048_0_0 r e r ⟨e.val, by omega⟩ (Nat.zero_add _).symm (Nat.zero_add _).symm).trans (blk4 m c t r _)
  have hb : View.ld (iblk m c 4 t) (Rect.unit (s := S256x4096) ![0, 2048] ![256, 2048] inb_S256x4096_S256x2048_0_2048) (ix2 r e)
      = (args m c).p (ix2 (row t r) ⟨14336 + e.val, by omega⟩) :=
    ((ld_ix2 (iblk m c 4 t) inb_S256x4096_S256x2048_0_2048 r e r ⟨2048 + e.val, by omega⟩ (Nat.zero_add _).symm rfl).trans (blk4 m c t r _)).trans
      (congrArg (args m c).p (congrArg (ix2 (row t r)) (Fin.ext (by show 12288 + (2048 + e.val) = 14336 + e.val; omega))))
  refine congrArg₂ (· + ·) (congrArg₂ (· * ·) (congrArg Ideal.logistic ha) (Finset.sum_congr rfl fun k _ => ?_))
    (congrArg₂ (· * ·) (congrArg Ideal.logistic hb) (Finset.sum_congr rfl fun k _ => ?_))
  · exact congrArg₂ (· * ·) (blk0 m c t r k) (blk5 m c t k e)
  · exact congrArg₂ (· * ·) (conv_eq m c t r k) (blk6 m c t k e)

theorem res_eq (c : Dev nD) (t : Fin cfg0.N) (r : Fin 256) (d : Fin 2048) :
    res m c t (ix2 r d) = MixMath.res (args m c) (row t r) d := by
  refine (pay_res _ _ _ _ _ _ _ _ r d).trans ?_
  refine congrArg₂ (· + ·) (blk8 m c t r d) (Finset.sum_congr rfl fun e _ => ?_)
  exact congrArg₂ (· * ·) (merged_eq m c t r e) (blk7 m c t e d)

theorem nrm_eq (c : Dev nD) (t : Fin cfg0.N) (r : Fin 256) (d : Fin 2048) :
    nrm m c t (ix2 r d) = MixMath.nrm (args m c) (row t r) d := by
  refine (pay_nrm (res m c t) _ r d).trans ?_
  unfold MixMath.nrm
  simp only [res_eq]
  exact congrArg (_ * ·) (blk9 m c t 0 d)

/-! ## The arrays -/

/-- The first result of device `c`. -/
def G10 (c : Dev nD) : Buf (Elt Ideal) ((c : Thread nD τ).loc main_v0_0) :=
  fun (i : S16384x2048.Idx) => MixMath.res (args m c) (i 0) (i 1)
/-- The second result. -/
def G11 (c : Dev nD) : Buf (Elt Ideal) ((c : Thread nD τ).loc main_v0_1) :=
  fun (i : S16384x2048.Idx) => MixMath.nrm (args m c) (i 0) (i 1)

theorem flushed10 (c : Dev nD) (t : Fin cfg0.N) :
    (dats m 0 c).flushed 10 t = ((cfg0.win 10).blk t).view.read (Elt Ideal) (G10 m c) := by
  rw [Value.flushed10, out10]
  funext y
  obtain ⟨r, d, rfl⟩ : ∃ (r : Fin 256) (d : Fin 2048), y = ix2 r d := ⟨y 0, y 1, by funext a; match a with | ⟨0, _⟩ => rfl | ⟨1, _⟩ => rfl⟩
  have e := idx10 t
  refine (res_eq m c t r d).trans ?_
  show _ = MixMath.res (args m c) _ _
  congr 1
  · exact Fin.ext (by show 256 * t.val + r.val = win0_10.index t 0 * 256 + 1 * r.val; rw [e.1]; omega)
  · exact Fin.ext (by show d.val = win0_10.index t 1 * 2048 + 1 * d.val; rw [e.2]; omega)

theorem flushed11 (c : Dev nD) (t : Fin cfg0.N) :
    (dats m 0 c).flushed 11 t = ((cfg0.win 11).blk t).view.read (Elt Ideal) (G11 m c) := by
  rw [Value.flushed11, out11]
  funext y
  obtain ⟨r, d, rfl⟩ : ∃ (r : Fin 256) (d : Fin 2048), y = ix2 r d := ⟨y 0, y 1, by funext a; match a with | ⟨0, _⟩ => rfl | ⟨1, _⟩ => rfl⟩
  have e := idx11 t
  refine (nrm_eq m c t r d).trans ?_
  show _ = MixMath.nrm (args m c) _ _
  congr 1
  · exact Fin.ext (by show 256 * t.val + r.val = win0_11.index t 0 * 256 + 1 * r.val; rw [e.1]; omega)
  · exact Fin.ext (by show d.val = win0_11.index t 1 * 2048 + 1 * d.val; rw [e.2]; omega)

/-- An index is in point `t`'s block when its row is. -/
theorem mem10 (t : Fin cfg0.N) (i : S16384x2048.Idx) (h : 256 * t.val ≤ (i 0 : ℕ) ∧ (i 0 : ℕ) < 256 * t.val + 256) :
    i ∈ ((cfg0.win 10).blk t).view.set := by
  show i ∈ ((View.whole main_v0_0).slice (win0_10.rect t)).set
  rw [View.set_slice_whole, Rect.mem_set_unit]
  have h1 : (i 1 : ℕ) < 2048 := (i 1).isLt
  have e := idx10 t
  intro a
  match a with
  | ⟨0, _⟩ => show win0_10.index t 0 * 256 ≤ (i 0 : ℕ) ∧ (i 0 : ℕ) < win0_10.index t 0 * 256 + 256; rw [e.1]; omega
  | ⟨1, _⟩ => show win0_10.index t 1 * 2048 ≤ (i 1 : ℕ) ∧ (i 1 : ℕ) < win0_10.index t 1 * 2048 + 2048; rw [e.2]; omega

theorem cover10 (i : S16384x2048.Idx) : ∃ t : Fin cfg0.N, (cfg0.win 10).flush t = true ∧ i ∈ ((cfg0.win 10).blk t).view.set := by
  have h0 : (i 0 : ℕ) < 16384 := (i 0).isLt
  have hN : cfg0.N = 64 := N_0
  exact ⟨⟨(i 0 : ℕ) / 256, by omega⟩, flush0_10 _, mem10 _ i (by dsimp only; omega)⟩

/-- An index is in point `t`'s block when its row is. -/
theorem mem11 (t : Fin cfg0.N) (i : S16384x2048.Idx) (h : 256 * t.val ≤ (i 0 : ℕ) ∧ (i 0 : ℕ) < 256 * t.val + 256) :
    i ∈ ((cfg0.win 11).blk t).view.set := by
  show i ∈ ((View.whole main_v0_1).slice (win0_11.rect t)).set
  rw [View.set_slice_whole, Rect.mem_set_unit]
  have h1 : (i 1 : ℕ) < 2048 := (i 1).isLt
  have e := idx11 t
  intro a
  match a with
  | ⟨0, _⟩ => show win0_11.index t 0 * 256 ≤ (i 0 : ℕ) ∧ (i 0 : ℕ) < win0_11.index t 0 * 256 + 256; rw [e.1]; omega
  | ⟨1, _⟩ => show win0_11.index t 1 * 2048 ≤ (i 1 : ℕ) ∧ (i 1 : ℕ) < win0_11.index t 1 * 2048 + 2048; rw [e.2]; omega

theorem cover11 (i : S16384x2048.Idx) : ∃ t : Fin cfg0.N, (cfg0.win 11).flush t = true ∧ i ∈ ((cfg0.win 11).blk t).view.set := by
  have h0 : (i 0 : ℕ) < 16384 := (i 0).isLt
  have hN : cfg0.N = 64 := N_0
  exact ⟨⟨(i 0 : ℕ) / 256, by omega⟩, flush0_11 _, mem11 _ i (by dsimp only; omega)⟩

theorem final10 (c : Dev nD) : (dats m 0 c).arrAt 10 cfg0.N = G10 m c :=
  (dats m 0 c).arrAt_eq_of_cover 10 (G10 m c) (fun t _ => flushed10 m c t) cover10
theorem final11 (c : Dev nD) : (dats m 0 c).arrAt 11 cfg0.N = G11 m c :=
  (dats m 0 c).arrAt_eq_of_cover 11 (G11 m c) (fun t _ => flushed11 m c t) cover11

end Cert.MixIdeal.Body

end
-- ==== Proof.MixRef.lean ====
/-
  The reference's stages, read at an index: its two results are the mathematics of the mix call. Position `s` of
  sequence `b` is row `2048 b + s` of the flat arrays.
-/
module

public import proofs.«01_k».proof.Proof.Gen.MixRefIdeal.Read
public import proofs.«01_k».proof.Proof.MixMath
public import Idealize.ShloMosaic.Lib.KernelVsHost
public import Idealize.ShloMosaic.Lib.IdealHost

@[expose] public section

set_option maxRecDepth 8000

noncomputable section

namespace Cert.MixRefIdeal.Stages

open Idealize.ShloMosaic Idealize.ShloMosaic.Ideal
open Idealize.SL.Sem
open Cert.MixRefIdeal.Read Cert.MixRefIdeal.Gen

/-- Row of position `s` of sequence `b`. -/
def row (b : Fin 8) (s : Fin 2048) : Fin 16384 := ⟨2048 * b.val + s.val, by omega⟩

variable (a : MixMath.Args) (b : Fin 8) (s e : Fin 2048)

theorem hm_at : val_main_v1 (F := Ideal) a.hm (ix3 b s e) = a.hm (ix2 (row b s) e) := by
  rw [val_main_v1_apply]
  refine congrArg a.hm (funext fun i => Fin.ext ?_)
  match i with
  | ⟨0, _⟩ => show ((b.val * 2048 + s.val) * 2048 + e.val) / 2048 = 2048 * b.val + s.val; omega
  | ⟨1, _⟩ => show ((b.val * 2048 + s.val) * 2048 + e.val) % 2048 = e.val; omega

theorem x_at : val_main_v4 (F := Ideal) a.x (ix3 b s e) = a.x (ix2 (row b s) e) := by
  rw [val_main_v4_apply]
  refine congrArg a.x (funext fun i => Fin.ext ?_)
  match i with
  | ⟨0, _⟩ => show ((b.val * 2048 + s.val) * 2048 + e.val) / 2048 = 2048 * b.val + s.val; omega
  | ⟨1, _⟩ => show ((b.val * 2048 + s.val) * 2048 + e.val) % 2048 = e.val; omega

theorem p_at (q : Fin 16384) : val_main_v3 (F := Ideal) a.p (ix3 b s q) = a.p (ix2 (row b s) q) := by
  rw [val_main_v3_apply]
  refine congrArg a.p (funext fun i => Fin.ext ?_)
  match i with
  | ⟨0, _⟩ => show ((b.val * 2048 + s.val) * 16384 + q.val) / 16384 = 2048 * b.val + s.val; omega
  | ⟨1, _⟩ => show ((b.val * 2048 + s.val) * 16384 + q.val) % 16384 = q.val; omega

/-- An index of three coordinates is its coordinates. -/
theorem eq3 {n0 n1 n2 : ℕ} (i : (⟨3, ![n0, n1, n2]⟩ : Shape).Idx) (x : Fin n0) (y : Fin n1) (z : Fin n2)
    (hx : (i 0).val = x.val) (hy : (i 1).val = y.val) (hz : (i 2).val = z.val) : i = ix3 x y z := by
  funext j
  match j with
  | ⟨0, _⟩ => exact Fin.ext hx
  | ⟨1, _⟩ => exact Fin.ext hy
  | ⟨2, _⟩ => exact Fin.ext hz
theorem eq2 {n0 n1 : ℕ} (i : (⟨2, ![n0, n1]⟩ : Shape).Idx) (x : Fin n0) (y : Fin n1)
    (hx : (i 0).val = x.val) (hy : (i 1).val = y.val) : i = ix2 x y := by
  funext j
  match j with
  | ⟨0, _⟩ => exact Fin.ext hx
  | ⟨1, _⟩ => exact Fin.ext hy

theorem v5_at : val_main_v5 (F := Ideal) a.p (ix3 b s e) = a.p (ix2 (row b s) ⟨6144 + e.val, by omega⟩) := by
  rw [val_main_v5_apply, eq3 (idx_main_v5 (ix3 b s e)) b s ⟨6144 + e.val, by omega⟩ rfl rfl rfl, p_at]
theorem v6_at : val_main_v6 (F := Ideal) a.p (ix3 b s e) = a.p (ix2 (row b s) ⟨8192 + e.val, by omega⟩) := by
  rw [val_main_v6_apply, eq3 (idx_main_v6 (ix3 b s e)) b s ⟨8192 + e.val, by omega⟩ rfl rfl rfl, p_at]
theorem v7_at : val_main_v7 (F := Ideal) a.p (ix3 b s e) = a.p (ix2 (row b s) ⟨10240 + e.val, by omega⟩) := by
  rw [val_main_v7_apply, eq3 (idx_main_v7 (ix3 b s e)) b s ⟨10240 + e.val, by omega⟩ rfl rfl rfl, p_at]
theorem v8_at : val_main_v8 (F := Ideal) a.p (ix3 b s e) = a.p (ix2 (row b s) ⟨12288 + e.val, by omega⟩) := by
  rw [val_main_v8_apply, eq3 (idx_main_v8 (ix3 b s e)) b s ⟨12288 + e.val, by omega⟩ rfl rfl rfl, p_at]
theorem v9_at : val_main_v9 (F := Ideal) a.p (ix3 b s e) = a.p (ix2 (row b s) ⟨14336 + e.val, by omega⟩) := by
  rw [val_main_v9_apply, eq3 (idx_main_v9 (ix3 b s e)) b s ⟨14336 + e.val, by omega⟩ rfl rfl rfl, p_at]

theorem v12_at : val_main_v12 (F := Ideal) a.p (ix3 b s e) = MixMath.prod a (row b s) e := by
  rw [val_main_v12_apply, v6_at, v7_at]
  rfl

/-- The padded product at position `s + 2 - k`: the product `k` positions before `s`, or the padding. -/
theorem pad_at (k : ℕ) (q : Fin 2050) (hq : q.val + k = s.val + 2) (hk : k ≤ 2) :
    val_main_v13 (F := Ideal) a.p (ix3 b q e) = MixMath.back a k (row b s) e := by
  have hrow : (row b s).val = 2048 * b.val + s.val := rfl
  unfold MixMath.back val_main_v13
  by_cases h : k ≤ s.val
  · rw [if_pos (by rw [hrow]; omega)]
    refine (pad_apply_of_inside _ _ _ _ _ _ _ (ix3 b q e) (ix3 b ⟨s.val - k, by omega⟩ e) (fun i => match i with
        | ⟨0, _⟩ => by show b.val = 0 + b.val * 1; omega
        | ⟨1, _⟩ => by show q.val = 2 + (s.val - k) * 1; omega
        | ⟨2, _⟩ => by show e.val = 0 + e.val * 1; omega)).trans ((v12_at a b _ e).trans ?_)
    congr 1
    exact Fin.ext (by show 2048 * b.val + (s.val - k) = (row b s).val - k; rw [hrow]; omega)
  · rw [if_neg (by rw [hrow]; omega)]
    refine (pad_apply_of_not_inside _ _ _ _ _ _ _ (ix3 b q e) (1 : Fin 3) (fun hc => by
        have h2 : 2 ≤ q.val := hc.1
        omega)).trans ?_
    show ((((0#32 : BitVec 32).toInt : ℝ)) : EReal) = 0
    simp

theorem tap0 : val_main_v18 (F := Ideal) a.cw (ix3 b s e) = a.cw (ix2 0 e) := by
  rw [val_main_v18_apply, val_main_v17_apply, val_main_v15_apply, val_main_v14_apply]
  exact congrArg a.cw (eq2 _ _ _ rfl (Nat.mod_eq_of_lt e.isLt))
theorem tap1 : val_main_v24 (F := Ideal) a.cw (ix3 b s e) = a.cw (ix2 1 e) := by
  rw [val_main_v24_apply, val_main_v23_apply, val_main_v21_apply, val_main_v20_apply]
  exact congrArg a.cw (eq2 _ _ _ rfl (Nat.mod_eq_of_lt e.isLt))
theorem tap2 : val_main_v31 (F := Ideal) a.cw (ix3 b s e) = a.cw (ix2 2 e) := by
  rw [val_main_v31_apply, val_main_v30_apply, val_main_v28_apply, val_main_v27_apply]
  exact congrArg a.cw (eq2 _ _ _ rfl (Nat.mod_eq_of_lt e.isLt))

theorem back_zero (R : Fin 16384) : MixMath.back a 0 R e = MixMath.prod a R e := by
  unfold MixMath.back
  rw [if_pos (Nat.zero_le _)]
  rfl

theorem conv_at : val_main_v34 (F := Ideal) a.p a.cw (ix3 b s e) = MixMath.conv a (row b s) e := by
  rw [val_main_v34_apply, val_main_v33_apply, val_main_v26_apply, val_main_v19_apply, val_main_v25_apply, val_main_v32_apply,
    val_main_v16_apply, val_main_v22_apply, val_main_v29_apply, tap0, tap1, tap2, v5_at,
    eq3 (idx_main_v16 (ix3 b s e)) b ⟨s.val, by omega⟩ e rfl rfl rfl, pad_at a b s e 2 ⟨s.val, by omega⟩ rfl le_rfl,
    eq3 (idx_main_v22 (ix3 b s e)) b ⟨1 + s.val, by omega⟩ e rfl rfl rfl,
    pad_at a b s e 1 ⟨1 + s.val, by omega⟩ (by show 1 + s.val + 1 = s.val + 2; omega) (by decide),
    eq3 (idx_main_v29 (ix3 b s e)) b ⟨2 + s.val, by omega⟩ e rfl rfl rfl,
    pad_at a b s e 0 ⟨2 + s.val, by omega⟩ (by show 2 + s.val + 0 = s.val + 2; omega) (by decide), back_zero]
  rfl

theorem gate_a : val_main_v42 (F := Ideal) a.p (ix3 b s e) = Ideal.logistic (a.p (ix2 (row b s) ⟨12288 + e.val, by omega⟩)) := by
  rw [val_main_v42_apply, val_main_v41_apply, val_main_v40_apply, val_main_v39_apply, val_main_v38_apply, val_main_v37_apply, v8_at]
  show Ideal.div (Ideal.ofBits .f32 0x3F800000#32) (Ideal.ofBits .f32 0x3F800000#32 + _) = _
  rw [ofBits_one_f32]
  rfl
theorem gate_b : val_main_v49 (F := Ideal) a.p (ix3 b s e) = Ideal.logistic (a.p (ix2 (row b s) ⟨14336 + e.val, by omega⟩)) := by
  rw [val_main_v49_apply, val_main_v48_apply, val_main_v47_apply, val_main_v46_apply, val_main_v45_apply, val_main_v44_apply, v9_at]
  show Ideal.div (Ideal.ofBits .f32 0x3F800000#32) (Ideal.ofBits .f32 0x3F800000#32 + _) = _
  rw [ofBits_one_f32]
  rfl

theorem proj_a : val_main_v11 (F := Ideal) a.hm a.wa (ix3 b s e) = ∑ k : Fin 2048, a.hm (ix2 (row b s) k) * a.wa (ix2 k e) := by
  rw [val_main_v11_apply]
  refine Finset.sum_congr rfl fun k _ => ?_
  rw [eq3 (lidx_main_v11 (ix3 b s e) k) b s k rfl rfl rfl, hm_at, eq2 (ridx_main_v11 (ix3 b s e) k) k e rfl rfl]
  rfl
theorem proj_b : val_main_v36 (F := Ideal) a.p a.cw a.wb (ix3 b s e) = ∑ k : Fin 2048, MixMath.conv a (row b s) k * a.wb (ix2 k e) := by
  rw [val_main_v36_apply]
  refine Finset.sum_congr rfl fun k _ => ?_
  rw [eq3 (lidx_main_v36 (ix3 b s e) k) b s k rfl rfl rfl, conv_at, eq2 (ridx_main_v36 (ix3 b s e) k) k e rfl rfl]
  rfl

theorem merged_at : val_main_v51 (F := Ideal) a.hm a.p a.cw a.wa a.wb (ix3 b s e) = MixMath.merged a (row b s) e := by
  rw [val_main_v51_apply, val_main_v43_apply, val_main_v50_apply, gate_a, gate_b, proj_a, proj_b]
  rfl

theorem res_at : val_main_v54 (F := Ideal) a.hm a.p a.cw a.wa a.wb a.wo a.x (ix3 b s e) = MixMath.res a (row b s) e := by
  rw [val_main_v54_apply, x_at, val_main_v53_apply]
  refine congrArg (_ + ·) (Finset.sum_congr rfl fun k _ => ?_)
  rw [eq3 (lidx_main_v53 (ix3 b s e) k) b s k rfl rfl rfl, merged_at, eq2 (ridx_main_v53 (ix3 b s e) k) k e rfl rfl]
  rfl

theorem square_at (i : S8x2048.Idx) (hi0 : (i 0).val = b.val) (hi1 : (i 1).val = s.val) :
    val_main_v56 (F := Ideal) a.hm a.p a.cw a.wa a.wb a.wo a.x i = ∑ d : Fin 2048, MixMath.res a (row b s) d * MixMath.res a (row b s) d := by
  rw [val_main_v56_apply]
  show Ideal.ofBits .f32 0x00000000#32 + _ = _
  rw [ofBits_zero_f32, zero_add]
  refine Finset.sum_congr rfl fun k _ => ?_
  rw [eq3 (idx_main_v56 i k) b s k hi0 hi1 rfl, val_main_v55_apply, res_at]
  rfl

theorem gain_at : val_main_v67 (F := Ideal) a.g (ix3 b s e) = a.g (ix2 0 e) := by
  rw [val_main_v67_apply, val_main_v66_apply, val_main_v65_apply]
  exact congrArg a.g (eq2 _ _ _ rfl (Nat.mod_eq_of_lt e.isLt))

theorem norm_at : val_main_v70 (F := Ideal) a.hm a.p a.cw a.wa a.wb a.wo a.x a.g (ix3 b s e) = MixMath.nrm a (row b s) e := by
  rw [val_main_v70_apply, val_main_v68_apply, val_main_v64_apply, res_at, gain_at, val_main_v63_apply, val_main_v62_apply,
    val_main_v61_apply, val_main_v60_apply, val_main_v59_apply, val_main_v58_apply, val_main_v57_apply, square_at a b s _ rfl rfl]
  rfl

/-! ## The two results -/

theorem v69_at (R : Fin 16384) (d : Fin 2048) :
    val_main_v69 (F := Ideal) a.hm a.p a.cw a.wa a.wb a.wo a.x (ix2 R d) = MixMath.res a R d := by
  rw [val_main_v69_apply, eq3 (idx_main_v69 (ix2 R d)) ⟨R.val / 2048, by omega⟩ ⟨R.val % 2048, by omega⟩ d
    (by show (R.val * 2048 + d.val) / 4194304 = R.val / 2048; omega)
    (by show (R.val * 2048 + d.val) / 2048 % 2048 = R.val % 2048; omega)
    (by show (R.val * 2048 + d.val) % 2048 = d.val; omega), res_at]
  congr 1
  exact Fin.ext (by show 2048 * (R.val / 2048) + R.val % 2048 = R.val; omega)

theorem v71_at (R : Fin 16384) (d : Fin 2048) :
    val_main_v71 (F := Ideal) a.hm a.p a.cw a.wa a.wb a.wo a.x a.g (ix2 R d) = MixMath.nrm a R d := by
  rw [val_main_v71_apply, eq3 (idx_main_v71 (ix2 R d)) ⟨R.val / 2048, by omega⟩ ⟨R.val % 2048, by omega⟩ d
    (by show (R.val * 2048 + d.val) / 4194304 = R.val / 2048; omega)
    (by show (R.val * 2048 + d.val) / 2048 % 2048 = R.val % 2048; omega)
    (by show (R.val * 2048 + d.val) % 2048 = d.val; omega), norm_at]
  congr 1
  exact Fin.ext (by show 2048 * (R.val / 2048) + R.val % 2048 = R.val; omega)

end Cert.MixRefIdeal.Stages

end
-- ==== Proof.MixClaim.lean ====
/-
  The claims about the mix call: both programs end with the arrays `MixMath` gives at their arguments.
-/
module

public import proofs.«01_k».proof.Defs
public import proofs.«01_k».proof.Proof.MixArray
public import proofs.«01_k».proof.Proof.MixRef

@[expose] public section

noncomputable section

namespace Cert.MixClaim

open Idealize.ShloMosaic Idealize.ShloMosaic.TcCoe Idealize.SL.Sem

/-- The reference's arguments, as the mathematics takes them. -/
def refArgs (m : (ℓ : Loc MixRefIdeal.nD MixRefIdeal.τ MixRefIdeal.sig) → Buf (Elt Ideal) ℓ) (c : Dev MixRefIdeal.nD) : MixMath.Args where
  hm := m ((c.tc : Thread MixRefIdeal.nD MixRefIdeal.τ).loc MixRefIdeal.main_arg0)
  p := m ((c.tc : Thread MixRefIdeal.nD MixRefIdeal.τ).loc MixRefIdeal.main_arg1)
  cw := m ((c.tc : Thread MixRefIdeal.nD MixRefIdeal.τ).loc MixRefIdeal.main_arg2)
  wa := m ((c.tc : Thread MixRefIdeal.nD MixRefIdeal.τ).loc MixRefIdeal.main_arg3)
  wb := m ((c.tc : Thread MixRefIdeal.nD MixRefIdeal.τ).loc MixRefIdeal.main_arg4)
  wo := m ((c.tc : Thread MixRefIdeal.nD MixRefIdeal.τ).loc MixRefIdeal.main_arg5)
  x := m ((c.tc : Thread MixRefIdeal.nD MixRefIdeal.τ).loc MixRefIdeal.main_arg6)
  g := m ((c.tc : Thread MixRefIdeal.nD MixRefIdeal.τ).loc MixRefIdeal.main_arg7)

theorem ref_res (m : (ℓ : Loc MixRefIdeal.nD MixRefIdeal.τ MixRefIdeal.sig) → Buf (Elt Ideal) ℓ) (c : Dev MixRefIdeal.nD) :
    MixRefIdeal.Value.res_main_v69 m c = fun i : MixRefIdeal.S16384x2048.Idx => MixMath.res (refArgs m c) (i 0) (i 1) := by
  rw [MixRefIdeal.Read.val_main_v69_eq]
  funext i
  rw [MixRefIdeal.Stages.eq2 i (i 0) (i 1) rfl rfl]
  exact MixRefIdeal.Stages.v69_at (refArgs m c) (i 0) (i 1)

theorem ref_nrm (m : (ℓ : Loc MixRefIdeal.nD MixRefIdeal.τ MixRefIdeal.sig) → Buf (Elt Ideal) ℓ) (c : Dev MixRefIdeal.nD) :
    MixRefIdeal.Value.res_main_v71 m c = fun i : MixRefIdeal.S16384x2048.Idx => MixMath.nrm (refArgs m c) (i 0) (i 1) := by
  rw [MixRefIdeal.Read.val_main_v71_eq]
  funext i
  rw [MixRefIdeal.Stages.eq2 i (i 0) (i 1) rfl rfl]
  exact MixRefIdeal.Stages.v71_at (refArgs m c) (i 0) (i 1)

/-- The reference's run ends with its arguments unchanged and, having no semaphore, every counter at zero. -/
theorem frame_ref : Cert.quiescent_MixRefIdeal := fun m ρ _ =>
  (θ_run MixRefIdeal.defs _ _).mono (fun r h => ⟨fun c => (h c).2.2, sem_eq_zero_of_no_sems (by decide) r.2⟩)
    (MixRefIdeal.Value.run (F := Ideal) m ρ)

theorem algebraic : Cert.algebraic_MixIdeal_MixRefIdeal := by
  intro m ρ m' ρ' _ hagree
  have e (c : Dev MixIdeal.nD) : refArgs m' c = MixIdeal.Body.args m c := by
    obtain ⟨h0, h1, h2, h3, h4, h5, h6, h7⟩ := hagree c
    unfold refArgs MixIdeal.Body.args
    rw [h0, h1, h2, h3, h4, h5, h6, h7]
  refine ⟨fun c => MixIdeal.Body.G10 m c, fun c => MixIdeal.Body.G11 m c, ?_, ?_⟩
  · exact (θ_run MixIdeal.defs _ _).mono
      (fun r h c => ⟨(h c).1.trans (MixIdeal.Body.final10 m c), (h c).2.1.trans (MixIdeal.Body.final11 m c), (h c).2.2⟩)
      (MixIdeal.Value.run_blocks m ρ)
  · exact (θ_run MixRefIdeal.defs _ _).mono
      (fun r h c => ⟨((h c).1.trans (ref_res m' c)).trans (by rw [e c]; rfl), ((h c).2.1.trans (ref_nrm m' c)).trans (by rw [e c]; rfl), (h c).2.2⟩)
      (MixRefIdeal.Value.run (F := Ideal) m' ρ')

end Cert.MixClaim

end
-- ==== Proof.FfnIdeal.Setup.lean ====
/- The launch of the ffn kernel: what its one pipelined call stages, and the pieces every later module speaks about —
   the windows' blocks, the three branch conditions of the body in closed form, the staging buffers, the scratch buffer
   `x1_buf`, the residual array left in HBM, and the semaphore of the copy between them. (Follows the generated
   set-up of a launch whose body moves data itself.) -/
module

public import proofs.«01_k».proof.Proof.Gen.FfnIdeal.Launch
public import proofs.«01_k».proof.Proof.Gen.FfnIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.FfnIdeal.Body

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A core's buffers when the pipelined call begins: as launched. -/
abbrev V (c : Dev nD) (b : Ref sig .tc) : Buf (Elt F) ((c : Thread nD τ).loc b) := m ((c : Thread nD τ).loc b)

set_option maxHeartbeats 800000 in
/-- `main` is the pipelined call alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, for proof data that leave the block where it is. -/
theorem before_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The branch conditions -/

/-- The first branch, the copy's start and the first product: at the points ≡ 0 (mod 11). -/
abbrev isFirst (i : grid0.Coords) : Prop := k0_cond1 i = 1#1
theorem isFirst_iff : ∀ t : Fin cfg0.N, isFirst (grid0.coords t) ↔ t.val % 11 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [isFirst, k0_cond1, e0, e1]
    word_cmp
   : ∀ t : Fin grid0.N, isFirst (grid0.coords t) ↔ t.val % 11 = 0)

/-- The second branch, a further product added: at the other points. -/
abbrev isLater (i : grid0.Coords) : Prop := k0_cond2 i = 1#1
theorem isLater_iff : ∀ t : Fin cfg0.N, isLater (grid0.coords t) ↔ 1 ≤ t.val % 11 :=
  (by decide +kernel : ∀ t : Fin grid0.N, isLater (grid0.coords t) ↔ 1 ≤ t.val % 11)

/-- The third branch, the wait, the residual and the norm: at the points ≡ 10 (mod 11). -/
abbrev isLast (i : grid0.Coords) : Prop := k0_cond3 i = 1#1
theorem isLast_iff : ∀ t : Fin cfg0.N, isLast (grid0.coords t) ↔ t.val % 11 = 10 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [isLast, k0_cond3, e0, e1]
    word_cmp
   : ∀ t : Fin grid0.N, isLast (grid0.coords t) ↔ t.val % 11 = 10)

/-! ## The buffers -/

/-- Each window's staging buffer at a point. -/
abbrev ms_0 (t : Fin cfg0.N) : Memref sig .tc .vmem S1024x2048 .bf16 := win0_0.stage (cfg0.slots t 0)
abbrev ms_1 (t : Fin cfg0.N) : Memref sig .tc .vmem S2048x512 .bf16 := win0_1.stage (cfg0.slots t 1)
abbrev ms_2 (t : Fin cfg0.N) : Memref sig .tc .vmem S2048x512 .bf16 := win0_2.stage (cfg0.slots t 2)
abbrev ms_3 (t : Fin cfg0.N) : Memref sig .tc .vmem S512x2048 .bf16 := win0_3.stage (cfg0.slots t 3)
abbrev ms_4 (t : Fin cfg0.N) : Memref sig .tc .vmem S1x2048 .f32 := win0_4.stage (cfg0.slots t 4)
abbrev ms_5 (t : Fin cfg0.N) : Memref sig .tc .vmem S1024x2048 .f32 := win0_5.stage (cfg0.slots t 5)

/-- The scratch buffer `x1_buf`. -/
abbrev bufM : Memref sig .tc .vmem S1024x2048 .f32 := Memref.whole cc0_scratch0
/-- The residual array, left in HBM. -/
abbrev resM : Memref sig .tc .hbm S16384x2048 .f32 := Memref.whole main_arg1

/-- A memref's buffer on core `c`, and it held whole. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The copy's semaphore is the kernel's own. -/
abbrev osem : Fin 1 → SemLoc sig := fun j => (![SemLoc.dma 11] : Fin 1 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 11) 0) := by
  rw [Pipeline.ownSems0_eq_of_list c osem [0] (by decide) (by decide)]; rfl

/-- The one array the body reads itself. -/
def H : Finset (Ref sig .tc) := {main_arg1}
theorem H_sub : H ⊆ Pipeline.restRefs sig spec0 := by decide
theorem hbmPts_eq (c : Dev nD) :
    (bigSep H (fun b => ((c : Thread nD τ).loc b) ↦{fullShare} V m c b) : sProp 𝕄) = iprop(hbPt c resM (V m c main_arg1)) := by
  rw [BI.bigSep_eq_bigSepL_of_eq [main_arg1] (by decide) (by decide)]; rfl

/-- What the body holds beside its windows where no copy is in flight. -/
theorem PhiD_eq (c : Dev nD) :
    (Pipeline.ΦD osem spec0 H (V m) c : sProp 𝕄)
      = iprop(iprop((∃ d, owns (c : Thread nD τ) bufM fullShare d)) ∗ (∃ r, prngReg c r) ∗ iprop(semVal ((c : Thread nD τ), SemLoc.dma 11) 0) ∗ iprop(hbPt c resM (V m c main_arg1))) := by
  rw [Pipeline.ΦD_eq, scopedRest0_eq, ownSems_eq, hbmPts_eq]; simp only [bufM, owns_whole]; try rfl

/-- The 1024 rows of the residual that row block `k` copies. -/
def rowsOf (c : Dev nD) (k : ℕ) (fh : HbBuf (F := F) c resM) : Vec F S1024x2048 .f32 :=
  fun j => resM.view.read (Elt F) fh (ix2 ⟨(1024 * k + (j 0).val) % 16384, Nat.mod_lt _ (by decide)⟩ (j 1))

/-- The copy in flight: when waited for it hands over the scratch buffer at `x` and the part `S` of the residual array
    it reads. -/
def InFlight (c : Dev nD) (buf : Memref sig .tc .vmem S1024x2048 .f32) (hbuf : buf.IsWhole) (x : Vec F S1024x2048 .f32)
    (S : Finset (Idx (resM.view.loc (c : Thread nD τ)))) (fh : HbBuf (F := F) c resM) : sProp 𝕄 :=
  Transfers.Flight (countersEmb (U := Pipeline.UD sig nD τ)) (c : Thread nD τ) (.dma 11) () (buf.view.amount (SemLoc.dma (sig := sig) 11))
    iprop((buf.view.loc (c : Thread nD τ) ↦[buf.view.set]{fullShare} hbuf.unread x) ∗ (resM.view.loc (c : Thread nD τ) ↦[S]{fullShare} fh))

end Cert.FfnIdeal.Body

end
-- ==== Proof.FfnIdeal.RunA.lean ====
/- The body at the first point of a row block: it starts the copy of the residual's rows into the scratch buffer and
   stores the first product. -/
module

public import proofs.«01_k».proof.Proof.FfnIdeal.Setup
public import proofs.«01_k».proof.Proof.Gen.FfnIdeal.Skeleton
public import Idealize.ShloMosaic.Lib.VecWindow
public import Idealize.ShloMosaic.Lib.Pipeline.ValueKit.Geometry

@[expose] public section

set_option maxRecDepth 16384

noncomputable section

namespace Cert.FfnIdeal.Body

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A load of all of a buffer reads its contents. -/
theorem load_unread {sp : Space} {S : Shape} {e : EltTy} {M : Memref sig .tc sp S e} (h : M.IsWhole) (x : S.Idx → Elt F e) {off : Fin S.rank → ℕ}
    (inb : ∀ a, off a + S.size a ≤ S.size a) : M.view.readAt (Elt F) (Rect.unit off S.size inb).toLoadRect (h.unread x) = x :=
  (View.readAt_full _ _ inb).trans (h.read_unread x)

/-- The slice the copy reads holds the rows of the row block. -/
theorem slice_rows (c : Dev nD) (i : grid0.Coords) (hin : ∀ a, (k0_off1 i) a + S1024x2048.size a ≤ S16384x2048.size a) (fh : HbBuf (F := F) c resM) :
    View.read (Elt F) (resM.slice (Rect.unit (k0_off1 i) S1024x2048.size hin) fun _ => rfl).view fh = rowsOf c (i 0).val fh := by
  funext j
  show resM.view.read (Elt F) fh ((Rect.unit (s := S16384x2048) (k0_off1 i) S1024x2048.size hin).emb j) = _
  refine congrArg (resM.view.read (Elt F) fh) (funext fun a => Fin.ext ?_)
  have hi : (i 0).val < 16 := (i 0).isLt
  have hj : (j 0).val < 1024 := (j 0).isLt
  rw [ValueKit.rect_emb_unit_val]
  refine (congrArg (· + (j a).val) (congrFun (k0_off1_eq i) a)).trans ?_
  match a with
  | ⟨0, _⟩ =>
    show 1024 * (i 0).val + (j 0).val = (1024 * (i 0).val + (j 0).val) % 16384
    exact (Nat.mod_eq_of_lt (by omega)).symm
  | ⟨1, _⟩ => exact Nat.zero_add _

set_option maxHeartbeats 1000000 in
theorem runA (c : Dev nD) (i : grid0.Coords) (arg2 : Memref sig .tc .vmem S1024x2048 .bf16) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hc0 : isFirst i) (hc1 : ¬isLater i) (hc2 : ¬isLast i)
    (x0 : Vec F S1024x2048 .bf16) (x1 : Vec F S2048x512 .bf16) (x2 : Vec F S2048x512 .bf16) (x3 : Vec F S512x2048 .bf16) (fh : HbBuf (F := F) c resM) :
      ∀ (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3 ∗ (∃ d, owns (c : Thread nD τ) arg8 fullShare d) ∗ (∃ d, owns (c : Thread nD τ) arg9 fullShare d) ∗ semVal ((c : Thread nD τ), SemLoc.dma 11) 0 ∗ hbPt c resM fh ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare (k0_pay1 x0 x1 x2 x3)
                ∗ (∃ S, InFlight c arg9 harg9 (rowsOf c (i 0).val fh) S fh ∗ (resM.view.loc (c : Thread nD τ) ↦[Finset.univ \ S]{fullShare} fh)) ∗ (∃ W', owes (c : Thread nD τ) 0 W')) -∗ K ⟨⟩))
          ⊢ wp frame (wpE (defs₀ (F := F)) Variants.none c none) Set.univ (cc0_ffn i arg2 harg2 (Memref.whole main_arg1) (Memref.isWhole_whole _) arg4 harg4 arg5 harg5 arg6 harg6 arg7 harg7 arg8 harg8 arg9 harg9 cc0_scratch1) K := by
    intro W K
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%d5, %f5, -, H5⟩, ⟨%ds0, %fs0, -, HS0⟩, Hq0, Hh0, HW, Hk⟩
    obtain rfl := harg2.eq_unread hf0; obtain rfl := harg4.eq_unread hf1; obtain rfl := harg5.eq_unread hf2; obtain rfl := harg6.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H5]
    · iexists _; isplitr; swap; · iexact H5
      ipureintro
      rw [View.read_writes_full]
      rw [load_unread harg2, load_unread harg4, load_unread harg5, load_unread harg6]
    isplitr [HW]; swap; · iexists _; iexact HW
    iexists _
    isplitr [Hh0]; swap; · iexact Hh0
    unfold InFlight
    rw [← harg9.eq_unread (f := arg9.view.writes (Elt F) fs0 [⟨Rect.whole S1024x2048, rowsOf c (i 0).val fh⟩]) (View.read_writes_whole _ _ _),
      ← slice_rows c i (k0_off1_inb i hc0) fh]
    iexact Hq0

end Cert.FfnIdeal.Body

end
-- ==== Proof.FfnIdeal.RunB.lean ====
/- The body at a middle point of a row block: it adds a product to what the output block holds; the copy stays in
   flight and no part of it is touched. -/
module

public import proofs.«01_k».proof.Proof.FfnIdeal.RunA
public import proofs.«01_k».proof.Proof.Gen.FfnIdeal.Skeleton
public import Idealize.ShloMosaic.Lib.VecWindow
public import Idealize.ShloMosaic.Lib.Pipeline.ValueKit.Geometry

@[expose] public section

set_option maxRecDepth 16384

noncomputable section

namespace Cert.FfnIdeal.Body

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem runB (c : Dev nD) (i : grid0.Coords) (arg2 : Memref sig .tc .vmem S1024x2048 .bf16) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hc0 : ¬isFirst i) (hc1 : isLater i) (hc2 : ¬isLast i)
    (x0 : Vec F S1024x2048 .bf16) (x1 : Vec F S2048x512 .bf16) (x2 : Vec F S2048x512 .bf16) (x3 : Vec F S512x2048 .bf16) (x5 : Vec F S1024x2048 .f32) :
      ∀ (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x5 ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare (k0_pay2 x0 x1 x2 x3 x5)
                ∗ (∃ W', owes (c : Thread nD τ) 0 W')) -∗ K ⟨⟩))
          ⊢ wp frame (wpE (defs₀ (F := F)) Variants.none c none) Set.univ (cc0_ffn i arg2 harg2 (Memref.whole main_arg1) (Memref.isWhole_whole _) arg4 harg4 arg5 harg5 arg6 harg6 arg7 harg7 arg8 harg8 arg9 harg9 cc0_scratch1) K := by
    intro W K
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%f5, %hf5, H5⟩, HW, Hk⟩
    obtain rfl := harg2.eq_unread hf0; obtain rfl := harg4.eq_unread hf1; obtain rfl := harg5.eq_unread hf2; obtain rfl := harg6.eq_unread hf3; obtain rfl := harg8.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H5]
    · iexists _; isplitr; swap; · iexact H5
      ipureintro
      rw [View.read_writes_full]
      rw [load_unread harg2, load_unread harg4, load_unread harg5, load_unread harg6, load_unread harg8]
    iexists _; iexact HW

end Cert.FfnIdeal.Body

end
-- ==== Proof.FfnIdeal.RunC.lean ====
/- The body at the last point of a row block: it adds the last product, waits for the residual's rows, and stores the
   normalised sum in 32 chunks of 32 rows. -/
module

public import proofs.«01_k».proof.Proof.FfnIdeal.RunB
public import proofs.«01_k».proof.Proof.Gen.FfnIdeal.Skeleton
public import Idealize.ShloMosaic.Lib.VecWindow
public import Idealize.ShloMosaic.Lib.Pipeline.ValueKit.Geometry

@[expose] public section

set_option maxRecDepth 16384

noncomputable section

namespace Cert.FfnIdeal.Body

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
def runC (c : Dev nD) (i : grid0.Coords) (arg2 : Memref sig .tc .vmem S1024x2048 .bf16) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hc0 : ¬isFirst i) (hc1 : isLater i) (hc2 : isLast i)
    (x0 : Vec F S1024x2048 .bf16) (x1 : Vec F S2048x512 .bf16) (x2 : Vec F S2048x512 .bf16) (x3 : Vec F S512x2048 .bf16) (x4 : Vec F S1x2048 .f32) (x5 : Vec F S1024x2048 .f32) (xr : Vec F S1024x2048 .f32) :
      { L5 : List (View.Piece (Elt F) S1024x2048 .f32) // ∀ (S : Finset (Idx (resM.view.loc (c : Thread nD τ)))) (fh : HbBuf (F := F) c resM) (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ InFlight c arg9 harg9 xr S fh ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ fW, arg8.view.loc (c : Thread nD τ) ↦[arg8.view.set]{fullShare} arg8.view.writes (Elt F) fW L5)
                ∗ owns (c : Thread nD τ) arg9 fullShare xr ∗ semVal ((c : Thread nD τ), SemLoc.dma 11) 0 ∗ (resM.view.loc (c : Thread nD τ) ↦[S]{fullShare} fh) ∗ (∃ W', owes (c : Thread nD τ) 0 W')) -∗ K ⟨⟩))
          ⊢ wp frame (wpE (defs₀ (F := F)) Variants.none c none) Set.univ (cc0_ffn i arg2 harg2 (Memref.whole main_arg1) (Memref.isWhole_whole _) arg4 harg4 arg5 harg5 arg6 harg6 arg7 harg7 arg8 harg8 arg9 harg9 cc0_scratch1) K } := by
    refine ⟨?_, fun S fh W K => ?run⟩
    case run =>
      simp only [cc0_ffn_eq_skeleton]; unfold cc0_ffn_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
      unfold owns InFlight
      iintro ⟨⟨%f0, %hf0, H0⟩, ⟨%f1, %hf1, H1⟩, ⟨%f2, %hf2, H2⟩, ⟨%f3, %hf3, H3⟩, ⟨%f4, %hf4, H4⟩, ⟨%f5, %hf5, H5⟩, HF, HW, Hk⟩
      obtain rfl := harg2.eq_unread hf0; obtain rfl := harg4.eq_unread hf1; obtain rfl := harg5.eq_unread hf2; obtain rfl := harg6.eq_unread hf3; obtain rfl := harg7.eq_unread hf4; obtain rfl := harg8.eq_unread hf5
      sl_exec (disch := first | sl_exact hc0 | sl_exact hc1 | sl_exact hc2)
      sl_step
      iapply Hk
      isplitl [H0]
      · iexists _; isplitr; · ipureintro; exact harg2.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists (harg8.unread x5); iexact H5
      isplitl [HF_dst]
      · iexists _; isplitr; · ipureintro; exact harg9.read_unread _
        iexact HF_dst
      isplitl [HF]; · iexact HF
      isplitl [HF_src]; · iexact HF_src
      iexists _; iexact HW

end Cert.FfnIdeal.Body

end
-- ==== Proof.FfnIdeal.Chunks.lean ====
/- What the last point's 32 stores leave in the output block: each takes 32 rows of the residual and of the accumulated
   product, and writes their normalised sum over those rows. The stores are followed one at a time by one lemma, which says
   how far the normalised rows reach. -/
module

public import proofs.«01_k».proof.Proof.FfnIdeal.RunC
public import Idealize.ShloMosaic.Lib.WholeRead

@[expose] public section

set_option maxRecDepth 16384

noncomputable section

namespace Cert.FfnIdeal.Body

open Cert.FfnIdeal.Gen
open Idealize.ShloMosaic Idealize.ShloMosaic.TcCoe Idealize.ShloMosaic.Tactic

variable {F : FTy → Type} [FloatOps F]

/-- Rows `32 k …` of a block. -/
def chunk (k : ℕ) (X : Vec F S1024x2048 .f32) : Vec F S32x2048 .f32 :=
  fun x => X (ix2 ⟨(32 * k + (x 0).val) % 1024, Nat.mod_lt _ (by decide)⟩ (x 1))

/-- The block of normalised sums, 32 rows at a time. -/
def normAll (xr acc : Vec F S1024x2048 .f32) (g : Vec F S1x2048 .f32) : Vec F S1024x2048 .f32 :=
  fun y => k0_pay3 (chunk ((y 0).val / 32) xr) (chunk ((y 0).val / 32) acc) g (ix2 ⟨(y 0).val % 32, Nat.mod_lt _ (by decide)⟩ (y 1))

/-- After `k` of the stores: the pieces cover the block, the first `32 k` rows hold normalised sums and the others the
    accumulated product. -/
def Reached (xr acc : Vec F S1024x2048 .f32) (g : Vec F S1x2048 .f32) (L : List (View.Piece (Elt F) S1024x2048 .f32)) (k : ℕ) : Prop :=
  (∀ y : S1024x2048.Idx, ∃ p ∈ L, y ∈ p.1.set)
    ∧ ∀ y : S1024x2048.Idx, View.canon L y = if (y 0).val < 32 * k then normAll xr acc g y else acc y

/-- The store of the accumulated product. -/
theorem reached_zero (xr acc : Vec F S1024x2048 .f32) (g : Vec F S1x2048 .f32) (inb : ∀ a, (![0, 0] : Fin 2 → ℕ) a + S1024x2048.size a ≤ S1024x2048.size a) :
    Reached xr acc g [⟨Rect.unit (s := S1024x2048) ![0, 0] S1024x2048.size inb, acc⟩] 0 := by
  have hm : ∀ y : S1024x2048.Idx, (Rect.unit (s := S1024x2048) ![0, 0] S1024x2048.size inb).emb y = y := fun y => Rect.emb_unit_full (s := S1024x2048) (off := ![0, 0]) inb y
  refine ⟨fun y => ⟨_, List.mem_singleton.2 rfl, ?_⟩, fun y => ?_⟩
  · show y ∈ (Rect.unit (s := S1024x2048) ![0, 0] S1024x2048.size inb).set
    rw [Rect.mem_set_unit]
    intro a
    have ha : (![0, 0] : Fin 2 → ℕ) a = 0 := by fin_cases a <;> rfl
    rw [show (![0, 0] : Fin S1024x2048.rank → ℕ) a = 0 from ha]
    exact ⟨Nat.zero_le _, by rw [Nat.zero_add]; exact (y a).isLt⟩
  · rw [if_neg (by omega)]
    have := View.canon_cons_emb (Val := Elt F) (e := .f32) (Rect.unit (s := S1024x2048) ![0, 0] S1024x2048.size inb) acc [] y
    rwa [hm] at this

/-- One more store. -/
theorem reached_succ {xr acc : Vec F S1024x2048 .f32} {g : Vec F S1x2048 .f32} {L : List (View.Piece (Elt F) S1024x2048 .f32)} {k : ℕ}
    (arg7 : Memref sig .tc .vmem S1x2048 .f32) (harg7 : arg7.IsWhole) (arg8 : Memref sig .tc .vmem S1024x2048 .f32)
    (arg9 : Memref sig .tc .vmem S1024x2048 .f32) (harg9 : arg9.IsWhole) (hk : k < 32)
    {o : ℕ} (ho : o = 32 * k) (inb : ∀ a, (![o, 0] : Fin 2 → ℕ) a + S32x2048.size a ≤ S1024x2048.size a)
    (inb7 : ∀ a, (![0, 0] : Fin 2 → ℕ) a + S1x2048.size a ≤ S1x2048.size a) (v : Vec F S32x2048 .f32)
    (hv : v = k0_pay3 (View.readAt (Elt F) arg9.view (Rect.unit (s := S1024x2048) ![o, 0] S32x2048.size inb).toLoadRect (harg9.unread xr))
      (arg8.view.readCov L (Rect.unit (s := S1024x2048) ![o, 0] S32x2048.size inb).toLoadRect)
      (View.readAt (Elt F) arg7.view (Rect.unit (s := S1x2048) ![0, 0] S1x2048.size inb7).toLoadRect (harg7.unread g)))
    (h : Reached xr acc g L k) :
    Reached xr acc g (⟨Rect.unit (s := S1024x2048) ![o, 0] S32x2048.size inb, v⟩ :: L) (k + 1) := by
  subst ho
  have hidx : ∀ x : S32x2048.Idx, (Rect.unit (s := S1024x2048) ![32 * k, 0] S32x2048.size inb).emb x
      = ix2 ⟨(32 * k + (x 0).val) % 1024, Nat.mod_lt _ (by decide)⟩ (x 1) := by
    intro x
    have hx : (x 0).val < 32 := (x 0).isLt
    funext a; refine Fin.ext ?_
    rw [ValueKit.rect_emb_unit_val]
    match a with
    | ⟨0, _⟩ => exact (Nat.mod_eq_of_lt (show 32 * k + (x 0).val < 1024 by omega)).symm
    | ⟨1, _⟩ => exact Nat.zero_add _
  have h9 : View.readAt (Elt F) arg9.view (Rect.unit (s := S1024x2048) ![32 * k, 0] S32x2048.size inb).toLoadRect (harg9.unread xr) = chunk k xr := by
    funext x
    exact (harg9.readAt_unread xr _ x).trans (congrArg xr (hidx x))
  have h8 : arg8.view.readCov L (Rect.unit (s := S1024x2048) ![32 * k, 0] S32x2048.size inb).toLoadRect = chunk k acc := by
    funext x
    have hx : (x 0).val < 32 := (x 0).isLt
    refine (View.read_writes_apply_eq_canon arg8.view arg8.view.junk _ L (h.1 _)).trans ?_
    refine (congrArg (View.canon L) (hidx x)).trans ((h.2 _).trans (if_neg ?_))
    show ¬ (32 * k + (x 0).val) % 1024 < 32 * k
    rw [Nat.mod_eq_of_lt (by omega)]; omega
  rw [h9, h8, load_unread harg7] at hv
  refine ⟨fun y => ?_, fun y => ?_⟩
  · obtain ⟨p, hp, hy⟩ := h.1 y
    exact ⟨p, List.mem_cons_of_mem _ hp, hy⟩
  · have hy0 : (y 0).val < 1024 := (y 0).isLt
    by_cases hin : 32 * k ≤ (y 0).val ∧ (y 0).val < 32 * k + 32
    · have e : y = (Rect.unit (s := S1024x2048) ![32 * k, 0] S32x2048.size inb).emb (ix2 ⟨(y 0).val % 32, Nat.mod_lt _ (by decide)⟩ (y 1) : S32x2048.Idx) := by
        rw [hidx]; funext a; refine Fin.ext ?_
        match a with
        | ⟨0, _⟩ =>
          show (y 0).val = (32 * k + (y 0).val % 32) % 1024
          omega
        | ⟨1, _⟩ => rfl
      rw [if_pos (by omega)]
      conv_lhs => rw [e]
      rw [View.canon_cons_emb, hv]
      unfold normAll
      rw [show (y 0).val / 32 = k by omega]
    · rw [View.canon_cons_of_not_mem, h.2]
      · by_cases h1 : (y 0).val < 32 * k
        · rw [if_pos h1, if_pos (by omega)]
        · rw [if_neg h1, if_neg (by omega)]
      · intro hm
        rw [Rect.mem_set_unit] at hm
        exact hin ⟨(hm 0).1, (hm 0).2⟩

section

variable (c : Dev nD) (i : grid0.Coords) (arg2 : Memref sig .tc .vmem S1024x2048 .bf16) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hc0 : ¬isFirst i) (hc1 : isLater i) (hc2 : isLast i)
    (x0 : Vec F S1024x2048 .bf16) (x1 : Vec F S2048x512 .bf16) (x2 : Vec F S2048x512 .bf16) (x3 : Vec F S512x2048 .bf16) (x4 : Vec F S1x2048 .f32) (x5 : Vec F S1024x2048 .f32) (xr : Vec F S1024x2048 .f32)

/-- The last point's stores, followed through. -/
theorem reached_run : Reached xr (k0_pay2 x0 x1 x2 x3 x5) x4
    (runC c i arg2 harg2 arg4 harg4 arg5 harg5 arg6 harg6 arg7 harg7 arg8 harg8 arg9 harg9 hc0 hc1 hc2 x0 x1 x2 x3 x4 x5 xr).1 32 := by
  unfold runC
  dsimp only
  sl_unfold_words
  iterate 32 refine reached_succ arg7 harg7 arg8 arg9 harg9 (by decide) (by rfl) _ (by decide) _ (by rfl) ?_
  rw [load_unread harg2, load_unread harg4, load_unread harg5, load_unread harg6, load_unread harg8]
  exact reached_zero _ _ _ _

/-- So the buffer reads as the normalised sums, whatever it held. -/
theorem read_run (fW : arg8.view.ty.Contents (Elt F)) : arg8.view.read (Elt F) (arg8.view.writes (Elt F) fW
    (runC c i arg2 harg2 arg4 harg4 arg5 harg5 arg6 harg6 arg7 harg7 arg8 harg8 arg9 harg9 hc0 hc1 hc2 x0 x1 x2 x3 x4 x5 xr).1)
      = normAll xr (k0_pay2 x0 x1 x2 x3 x5) x4 := by
  have h := reached_run c i arg2 harg2 arg4 harg4 arg5 harg5 arg6 harg6 arg7 harg7 arg8 harg8 arg9 harg9 hc0 hc1 hc2 x0 x1 x2 x3 x4 x5 xr
  funext y
  exact (View.read_writes_apply_eq_canon _ _ y _ (h.1 y)).trans ((h.2 y).trans (if_pos (y 0).isLt))

end

end Cert.FfnIdeal.Body

end
-- ==== Proof.FfnIdeal.Frame.lean ====
/- The frame of the ffn kernel: what the output block holds after each point, the invariant that carries the copy in
   flight from the first point of a row block to its last, the body's obligation at every point, and the launch. -/
module

public import proofs.«01_k».proof.Proof.FfnIdeal.Chunks
public import Idealize.ShloMosaic.Lib.Claim

@[expose] public section

set_option maxRecDepth 16384

noncomputable section

namespace Cert.FfnIdeal.Body

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the output block holds -/

/-- The first product of a row block, at point `t`. -/
def firstAt (c : Dev nD) (t : Fin cfg0.N) : Vec F S1024x2048 .f32 :=
  k0_pay1 (iblk m c 0 t) (iblk m c 1 t) (iblk m c 2 t) (iblk m c 3 t)

/-- A later product added to `x`, at point `t`. -/
def laterAt (c : Dev nD) (t : Fin cfg0.N) (x : Vec F S1024x2048 .f32) : Vec F S1024x2048 .f32 :=
  k0_pay2 (iblk m c 0 t) (iblk m c 1 t) (iblk m c 2 t) (iblk m c 3 t) x

/-- The last of a row block: a later product, and the normalised sum with the residual's rows. -/
def lastAt (c : Dev nD) (t : Fin cfg0.N) (x : Vec F S1024x2048 .f32) : Vec F S1024x2048 .f32 :=
  normAll (rowsOf c (grid0.coords t 0).val (V m c main_arg1)) (laterAt m c t x) (iblk m c 4 t)

/-- The output block after point `n`. -/
def outAt (c : Dev nD) : (n : ℕ) → n < cfg0.N → Vec F S1024x2048 .f32
  | 0, h => firstAt m c ⟨0, h⟩
  | n + 1, h =>
    if (n + 1) % 11 = 0 then firstAt m c ⟨n + 1, h⟩
    else if (n + 1) % 11 = 10 then lastAt m c ⟨n + 1, h⟩ (outAt c n (Nat.lt_of_succ_lt h))
    else laterAt m c ⟨n + 1, h⟩ (outAt c n (Nat.lt_of_succ_lt h))

theorem outAt_first (c : Dev nD) (t : Fin cfg0.N) (h : t.val % 11 = 0) : outAt m c t.val t.isLt = firstAt m c t := by
  obtain ⟨n, hn⟩ := t
  cases n with
  | zero => rfl
  | succ n => exact if_pos h

theorem outAt_later (c : Dev nD) (t : Fin cfg0.N) (h : t.val % 11 ≠ 0) (h' : t.val % 11 ≠ 10) :
    outAt m c t.val t.isLt = laterAt m c t (outAt m c (t.val - 1) (Nat.lt_of_le_of_lt (Nat.sub_le _ _) t.isLt)) := by
  obtain ⟨n, hn⟩ := t
  cases n with
  | zero => exact absurd rfl h
  | succ n => exact (if_neg h).trans (if_neg h')

theorem outAt_last (c : Dev nD) (t : Fin cfg0.N) (h : t.val % 11 = 10) :
    outAt m c t.val t.isLt = lastAt m c t (outAt m c (t.val - 1) (Nat.lt_of_le_of_lt (Nat.sub_le _ _) t.isLt)) := by
  obtain ⟨n, hn⟩ := t
  cases n with
  | zero => exact absurd (show 0 % 11 = 10 from h) (by decide)
  | succ n => exact (if_neg (by intro h0; have : (n + 1) % 11 = 10 := h; omega)).trans (if_pos h)

/-! ## The proof data -/

/-- While a copy is in flight: the generator register, the flight, and the part of the residual array the copy does not read. -/
def Flying (c : Dev nD) (k : ℕ) : sProp 𝕄 :=
  iprop((∃ r, prngReg c r) ∗ ∃ S, InFlight c bufM (Memref.isWhole_whole _) (rowsOf c k (V m c main_arg1)) S (V m c main_arg1)
    ∗ (resM.view.loc (c : Thread nD τ) ↦[Finset.univ \ S]{fullShare} V m c main_arg1))

/-- Before point `n`: at a row block's first point nothing is in flight, elsewhere the row block's copy is. -/
def Between (c : Dev nD) (n : ℕ) : sProp 𝕄 :=
  if n % 11 = 0 then Pipeline.ΦD osem spec0 H (V m) c else Flying m c (n / 11 % 16)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ n := Between m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t.val t.isLt := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-- Every point stores into the output's buffer. -/
theorem live_5 : ∀ i : grid0.Coords, cfg0.idle 5 i = false :=
  (by decide +kernel : ∀ i : grid0.Coords, (!(k0_cond1 i == 1#1) && !(k0_cond2 i == 1#1) && !(k0_cond3 i == 1#1)) = false)

/-- Within a row block the output's buffer holds what the point before left. -/
theorem before_5 (c : Dev nD) (t : Fin cfg0.N) (h : t.val % 11 ≠ 0) (d) :
    (dats m 0 c).before 5 t d = outAt m c (t.val - 1) (Nat.lt_of_le_of_lt (Nat.sub_le _ _) t.isLt) := by
  have h0 : t.val ≠ 0 := fun e => h (by rw [e])
  refine ((dats m 0 c).before_out_kept 5 rfl t h0 ?_ live_5 (fun _ _ => rfl) d).trans (after_5 m c _)
  refine Bool.eq_false_iff.2 fun hf => ?_
  have := (flush0_5 _).1 hf
  dsimp only at this
  omega

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ (dats m 0 c).leavesExact 5 t)

theorem Phi_before (c : Dev nD) (t : Fin cfg0.N) : (dats m 0 c).Φ t.castSucc = Between m c t.val := by dsimp only [dats]; rfl
theorem Phi_after (c : Dev nD) (t : Fin cfg0.N) : (dats m 0 c).Φ t.succ = Between m c (t.val + 1) := by dsimp only [dats]; rfl

theorem row_of (t : Fin cfg0.N) : (grid0.coords t 0).val = t.val / 11 % 16 := Pipeline.Grid.coords_val t 0 (by decide) rfl

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).leavesExact 5 t = owns (c : Thread nD τ) (ms_5 t) fullShare ((dats m 0 c).after 5 t) from by
    unfold Dat.leavesExact; rw [live_5]]
  rw [Phi_before, Phi_after, after_0, after_1, after_2, after_3, after_4, after_5]
  unfold Dat.owesAt Pipeline.owesWithin
  rw [show (dats m 0 c).owed t.castSucc = 0 from rfl, show (dats m 0 c).owed t.succ = 0 from rfl]
  by_cases h0 : t.val % 11 = 0
  · have h1 : ¬ 1 ≤ t.val % 11 := by omega
    have h2 : ¬ t.val % 11 = 10 := by omega
    rw [outAt_first m c t h0]
    unfold Between
    rw [if_pos h0, if_neg (show ¬ (t.val + 1) % 11 = 0 by omega), PhiD_eq, show (t.val + 1) / 11 % 16 = (grid0.coords t 0).val by rw [row_of]; omega]
    unfold Flying
    iintro ⟨⟨HS0, Hg, Hq0, Hh0⟩, ⟨%W, -, HW⟩, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ ((isFirst_iff t).mpr h0) (fun h => h1 ((isLater_iff t).mp h)) (fun h => h2 ((isLast_iff t).mp h)) (iblk m c 0 t) (iblk m c 1 t) (iblk m c 2 t) (iblk m c 3 t) (V m c main_arg1) W _)
    isplitl [H0]; · iexact H0
    isplitl [H1]; · iexact H1
    isplitl [H2]; · iexact H2
    isplitl [H3]; · iexact H3
    isplitl [H5]; · iexists _; iexact H5
    isplitl [HS0]; · iexact HS0
    isplitl [Hq0]; · iexact Hq0
    isplitl [Hh0]; · iexact Hh0
    isplitl [HW]; · iexact HW
    iintro ⟨H0, H1, H2, H3, H5, HF, ⟨%W', HW'⟩⟩
    isplitl [Hg HF]
    · isplitl [Hg]; · iexact Hg
      iexact HF
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · have h1 : 1 ≤ t.val % 11 := by omega
    simp only [before_5 m c t h0]
    by_cases h2 : t.val % 11 = 10
    · rw [outAt_last m c t h2]
      unfold Between
      rw [if_neg h0, if_pos (show (t.val + 1) % 11 = 0 by omega), PhiD_eq, ← row_of]
      unfold Flying
      iintro ⟨⟨Hg, ⟨%S, HF, Hr⟩⟩, ⟨%W, -, HW⟩, ⟨%d0, H0⟩, ⟨%d1, H1⟩, ⟨%d2, H2⟩, ⟨%d3, H3⟩, ⟨%d4, H4⟩, ⟨%d5, H5⟩⟩
      iapply ((runC c (grid0.coords t) _ _ _ _ _ _ _ _ _ _ _ _ _ _ (fun h => h0 ((isFirst_iff t).mp h)) ((isLater_iff t).mpr h1) ((isLast_iff t).mpr h2) (iblk m c 0 t) (iblk m c 1 t) (iblk m c 2 t) (iblk m c 3 t) (iblk m c 4 t) (outAt m c (t.val - 1) (Nat.lt_of_le_of_lt (Nat.sub_le _ _) t.isLt)) (rowsOf c (grid0.coords t 0).val (V m c main_arg1))).2 S (V m c main_arg1) W _)
      isplitl [H0]; · iexact H0
      isplitl [H1]; · iexact H1
      isplitl [H2]; · iexact H2
      isplitl [H3]; · iexact H3
      isplitl [H4]; · iexact H4
      isplitl [H5]; · iexact H5
      isplitl [HF]; · iexact HF
      isplitl [HW]; · iexact HW
      iintro ⟨H0, H1, H2, H3, H4, ⟨%fW, H5⟩, HS0, Hq0, Hs, ⟨%W', HW'⟩⟩
      isplitl [Hg HS0 Hq0 Hs Hr]
      · isplitl [HS0]; · iexists _; iexact HS0
        isplitl [Hg]; · iexact Hg
        isplitl [Hq0]; · iexact Hq0
        iapply ((pointsTo_split_subset (Finset.subset_univ S)).2)
        isplitl [Hs]; · iexact Hs
        iexact Hr
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      unfold owns; iexists _; isplitr
      swap; · iexact H5
      ipureintro
      exact read_run c _ _ _ _ _ _ _ _ _ _ _ _ _ _ _ _ _ _ _ _ _ _ _ _ _ fW
    · rw [outAt_later m c t h0 h2]
      unfold Between
      rw [if_neg h0, if_neg (show ¬ (t.val + 1) % 11 = 0 by omega), show (t.val + 1) / 11 % 16 = t.val / 11 % 16 by omega]
      iintro ⟨HP, ⟨%W, -, HW⟩, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ (fun h => h0 ((isFirst_iff t).mp h)) ((isLater_iff t).mpr h1) (fun h => h2 ((isLast_iff t).mp h)) (iblk m c 0 t) (iblk m c 1 t) (iblk m c 2 t) (iblk m c 3 t) (outAt m c (t.val - 1) (Nat.lt_of_le_of_lt (Nat.sub_le _ _) t.isLt)) W _)
      isplitl [H0]; · iexact H0
      isplitl [H1]; · iexact H1
      isplitl [H2]; · iexact H2
      isplitl [H3]; · iexact H3
      isplitl [H5]; · iexact H5
      isplitl [HW]; · iexact HW
      iintro ⟨H0, H1, H2, H3, H5, ⟨%W', HW'⟩⟩
      isplitl [HP]; · iexact HP
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem Between_zero (c : Dev nD) : Pipeline.ΦD osem spec0 H (V m) c = (dats m 0 c).Φ 0 := by
  dsimp only [dats]; exact (if_pos (Nat.zero_mod _)).symm
theorem Between_last (c : Dev nD) : (dats m 0 c).Φ (Fin.last cfg0.N) = Pipeline.ΦD osem spec0 H (V m) c := by
  dsimp only [dats]; exact if_pos (by rw [Fin.val_last, show cfg0.N = 176 from N_0])

set_option backward.isDefEq.respectTransparency.types false in
/-- Every fair run ends, with every array of the pipeline at what the proof data say, every other array as launched, and
    every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts H H_sub m ρ main
    (hbody := fun c => (body_obligation m c).loose) (hshare := fun c => (dats m 0 c).share_full fun _ => rfl)
    (howed := fun _ _ => rfl) (V := V m) (hmain := hmain m Variants.none) (hA := A_eq m)
    (hin := fun c => by rw [Between_zero]) (hout := fun c => by rw [Between_last])

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats m 0 c).arrAt_in 0 rfl _).trans (A_eq m c 0)),
      (h c).2 main_arg1 (Pipeline.mem_restRefs_of main_arg1 (by decide) (by decide)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4))⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnIdeal.Body

end
-- ==== Proof.FfnFrame.lean ====
/-
  The frame of the feed-forward program as it is printed. No rule changed it, so its idealization is the same program word for
  word, and the frame of `FfnIdeal/Frame.lean`, proved over any arithmetic, is its frame too.
-/
module

public import proofs.«01_k».proof.Defs
public import proofs.«01_k».proof.Proof.Gen.Ffn
public import proofs.«01_k».proof.Proof.FfnIdeal.Frame

@[expose] public section

noncomputable section

namespace Cert.FfnFrame

open Idealize.ShloMosaic Idealize.ShloMosaic.TcCoe Idealize.SL.Sem

/-- The two body tables are one: the one label's body is the same program. -/
theorem bodies : Ffn.defs₀ (F := Bits) = FfnIdeal.defs₀ (F := Bits) := by
  unfold Ffn.defs₀ FfnIdeal.defs₀
  refine congrArg (Defs.onTc (nD := 1) (sig := FfnIdeal.sig) (Λ := FfnIdeal.Λ₀)) ?_
  funext l x
  match l, x with
  | 0, (t, s) => rfl

theorem defs_eq : Ffn.defs (F := Bits) = FfnIdeal.defs (F := Bits) :=
  congrArg (Pipeline.defs (FfnIdeal.pcfgs (F := Bits))) bodies

theorem frame : Cert.quiescent_Ffn := fun m ρ _ => by
  have h := FfnIdeal.Body.frame (F := Bits) m ρ
  rw [← defs_eq] at h
  exact h

end Cert.FfnFrame

end
-- ==== Proof.FfnMath.lean ====
/-
  The mathematics of the feed-forward call, as functions of its arguments: both programs are shown to compute these.
-/
module

public import Idealize.ShloMosaic.Lib.Pointwise

@[expose] public section

noncomputable section

namespace Cert.FfnMath

open Idealize.ShloMosaic

/-- The arguments of the call, as arrays of extended reals. -/
structure Args where
  hf : (⟨2, ![16384, 2048]⟩ : Shape).Idx → EReal
  x : (⟨2, ![16384, 2048]⟩ : Shape).Idx → EReal
  wg : (⟨2, ![2048, 5632]⟩ : Shape).Idx → EReal
  wu : (⟨2, ![2048, 5632]⟩ : Shape).Idx → EReal
  wd : (⟨2, ![5632, 2048]⟩ : Shape).Idx → EReal
  g : (⟨2, ![1, 2048]⟩ : Shape).Idx → EReal

variable (a : Args)

/-- The gate's projection of row `R`, unit `f`. -/
def gate (R : Fin 16384) (f : Fin 5632) : EReal := ∑ k : Fin 2048, a.hf (ix2 R k) * a.wg (ix2 k f)
/-- The other projection. -/
def up (R : Fin 16384) (f : Fin 5632) : EReal := ∑ k : Fin 2048, a.hf (ix2 R k) * a.wu (ix2 k f)
/-- The gated unit. -/
def act (R : Fin 16384) (f : Fin 5632) : EReal := gate a R f * Ideal.logistic (gate a R f) * up a R f

/-- The residual stream after the feed-forward network. -/
def res (R : Fin 16384) (d : Fin 2048) : EReal := a.x (ix2 R d) + ∑ f : Fin 5632, act a R f * a.wd (ix2 f d)

/-- Its root-mean-square norm: the layer's output. -/
def nrm (R : Fin 16384) (d : Fin 2048) : EReal :=
  res a R d * Ideal.rsqrt (Ideal.div (∑ e : Fin 2048, res a R e * res a R e) (Ideal.ofBits .f32 0x45000000#32)
      + Ideal.ofBits .f32 0x358637BD#32) * a.g (ix2 0 d)

/-! ## The sum over the units, 512 at a time -/

/-- Unit `k` of the `q`-th 512. -/
def unit (q : ℕ) (k : Fin 512) : Fin 5632 := ⟨(512 * q + k.val) % 5632, Nat.mod_lt _ (by decide)⟩

/-- What the `q`-th 512 units add. -/
def tile (q : ℕ) (R : Fin 16384) (d : Fin 2048) : EReal :=
  ∑ k : Fin 512, act a R (unit q k) * a.wd (ix2 (unit q k) d)

/-- Sums over consecutive runs of 512 indices make the sum over all of them. -/
theorem sum_runs (f : ℕ → EReal) (n : ℕ) :
    ∑ q ∈ Finset.range n, ∑ k : Fin 512, f (512 * q + k.val) = ∑ j ∈ Finset.range (512 * n), f j := by
  induction n with
  | zero => rfl
  | succ n ih =>
    rw [Finset.sum_range_succ, ih, Nat.mul_succ, Finset.sum_range_add, Finset.sum_range (fun k => f (512 * n + k))]

/-- The eleven tiles make the product. -/
theorem sum_tiles (R : Fin 16384) (d : Fin 2048) :
    ∑ q ∈ Finset.range 11, tile a q R d = ∑ f : Fin 5632, act a R f * a.wd (ix2 f d) := by
  let w (n : ℕ) : EReal := act a R ⟨n % 5632, Nat.mod_lt _ (by decide)⟩ * a.wd (ix2 ⟨n % 5632, Nat.mod_lt _ (by decide)⟩ d)
  refine (sum_runs w 11).trans ((Finset.sum_range w).trans (Finset.sum_congr rfl fun f _ => ?_))
  have e : (⟨f.val % 5632, Nat.mod_lt _ (by decide)⟩ : Fin 5632) = f := Fin.ext (Nat.mod_eq_of_lt f.isLt)
  show act a R ⟨f.val % 5632, _⟩ * a.wd (ix2 ⟨f.val % 5632, _⟩ d) = _
  rw [e]

end Cert.FfnMath

end
-- ==== Proof.FfnBlock.lean ====
/-
  The feed-forward kernel's three stored expressions, read at an index.
-/
module

public import proofs.«01_k».proof.Proof.FfnIdeal.Frame
public import proofs.«01_k».proof.Proof.FfnMath

@[expose] public section

set_option maxRecDepth 16384

noncomputable section

namespace Cert.FfnIdeal.Body

open Idealize.ShloMosaic Idealize.ShloMosaic.TcCoe Idealize.ShloMosaic.Tactic
open Cert.FfnIdeal.Gen

/-- The gated unit `k` of one block, at row `r`. -/
def unitAt (h : FVec Ideal S1024x2048 .bf16) (g u : FVec Ideal S2048x512 .bf16) (r : Fin 1024) (k : Fin 512) : EReal :=
  (∑ e : Fin 2048, h (ix2 r e) * g (ix2 e k)) * Ideal.logistic (∑ e : Fin 2048, h (ix2 r e) * g (ix2 e k))
    * (∑ e : Fin 2048, h (ix2 r e) * u (ix2 e k))

theorem pay_first (h : FVec Ideal S1024x2048 .bf16) (g u : FVec Ideal S2048x512 .bf16) (w : FVec Ideal S512x2048 .bf16)
    (r : Fin 1024) (d : Fin 2048) :
    k0_pay1 (F := Ideal) h g u w (ix2 r d) = ∑ k : Fin 512, unitAt h g u r k * w (ix2 k d) := by
  unfold unitAt
  pointwise [k0_pay1]

theorem pay_later (h : FVec Ideal S1024x2048 .bf16) (g u : FVec Ideal S2048x512 .bf16) (w : FVec Ideal S512x2048 .bf16)
    (x : FVec Ideal S1024x2048 .f32) (r : Fin 1024) (d : Fin 2048) :
    k0_pay2 (F := Ideal) h g u w x (ix2 r d) = x (ix2 r d) + ∑ k : Fin 512, unitAt h g u r k * w (ix2 k d) := by
  unfold unitAt
  pointwise [k0_pay2]

/-- The norm of 32 rows' sums. -/
theorem pay_norm (x y : FVec Ideal S32x2048 .f32) (g : FVec Ideal S1x2048 .f32) (r : Fin 32) (d : Fin 2048) :
    k0_pay3 (F := Ideal) x y g (ix2 r d)
      = (x (ix2 r d) + y (ix2 r d))
          * Ideal.rsqrt (Ideal.div (∑ e : Fin 2048, (x (ix2 r e) + y (ix2 r e)) * (x (ix2 r e) + y (ix2 r e))) (Ideal.ofBits .f32 0x45000000#32)
            + Ideal.ofBits .f32 0x358637BD#32) * g (ix2 0 d) := by
  pointwise [k0_pay3]

/-- The same of a whole block's rows. -/
theorem norm_rows (x y : FVec Ideal S1024x2048 .f32) (g : FVec Ideal S1x2048 .f32) (r : Fin 1024) (d : Fin 2048) :
    normAll (F := Ideal) x y g (ix2 r d)
      = (x (ix2 r d) + y (ix2 r d))
          * Ideal.rsqrt (Ideal.div (∑ e : Fin 2048, (x (ix2 r e) + y (ix2 r e)) * (x (ix2 r e) + y (ix2 r e))) (Ideal.ofBits .f32 0x45000000#32)
            + Ideal.ofBits .f32 0x358637BD#32) * g (ix2 0 d) := by
  have e (X : FVec Ideal S1024x2048 .f32) (q : Fin 2048) :
      chunk (F := Ideal) (r.val / 32) X (ix2 ⟨r.val % 32, Nat.mod_lt _ (by decide)⟩ q) = X (ix2 r q) := by
    have hr : (⟨(32 * (r.val / 32) + r.val % 32) % 1024, Nat.mod_lt _ (by decide)⟩ : Fin 1024) = r :=
      Fin.ext (by show (32 * (r.val / 32) + r.val % 32) % 1024 = r.val; omega)
    exact congrArg (fun s => X (ix2 s q)) hr
  refine (pay_norm (chunk (F := Ideal) (r.val / 32) x) (chunk (F := Ideal) (r.val / 32) y) g ⟨r.val % 32, Nat.mod_lt _ (by decide)⟩ d).trans ?_
  simp only [e]

end Cert.FfnIdeal.Body

end
-- ==== Proof.FfnArray.lean ====
/-
  The feed-forward kernel's result array: each block of 1024 rows adds up eleven products of 512 units, and its last point
  leaves `FfnMath.nrm` of the argument arrays.
-/
module

public import proofs.«01_k».proof.Proof.FfnBlock

@[expose] public section

set_option maxRecDepth 16384

noncomputable section

namespace Cert.FfnIdeal.Body

open Idealize.ShloMosaic Idealize.ShloMosaic.TcCoe Idealize.ShloMosaic.Tactic
open Idealize.SL.Sem
open Idealize.ShloMosaic.Pipeline (Dat Cfg Window)
open Cert.FfnIdeal.Gen

variable (m : (ℓ : Loc nD τ sig) → Buf (Elt Ideal) ℓ)

/-- The argument arrays of device `c`. -/
def args (c : Dev nD) : FfnMath.Args where
  hf := m ((c : Thread nD τ).loc main_arg0)
  x := m ((c : Thread nD τ).loc main_arg1)
  wg := m ((c : Thread nD τ).loc main_arg2)
  wu := m ((c : Thread nD τ).loc main_arg3)
  wd := m ((c : Thread nD τ).loc main_arg4)
  g := m ((c : Thread nD τ).loc main_arg5)

theorem lt176 (t : Fin cfg0.N) : t.val < 176 := by have := t.isLt; have h : cfg0.N = 176 := N_0; omega

/-- Row `r` of point `n`'s block of rows. -/
def row (n : ℕ) (r : Fin 1024) : Fin 16384 := ⟨(1024 * (n / 11) + r.val) % 16384, Nat.mod_lt _ (by decide)⟩

/-! ## Where the blocks lie -/

theorem idx0 : ∀ t : Fin cfg0.N, win0_0.index t 0 = t.val / 11 ∧ win0_0.index t 1 = 0 :=
  (by decide +kernel : ∀ t : Fin grid0.N, win0_0.index t 0 = t.val / 11 ∧ win0_0.index t 1 = 0)
theorem idx1 : ∀ t : Fin cfg0.N, win0_1.index t 0 = 0 ∧ win0_1.index t 1 = t.val % 11 :=
  (by decide +kernel : ∀ t : Fin grid0.N, win0_1.index t 0 = 0 ∧ win0_1.index t 1 = t.val % 11)
theorem idx2 : ∀ t : Fin cfg0.N, win0_2.index t 0 = 0 ∧ win0_2.index t 1 = t.val % 11 :=
  (by decide +kernel : ∀ t : Fin grid0.N, win0_2.index t 0 = 0 ∧ win0_2.index t 1 = t.val % 11)
theorem idx3 : ∀ t : Fin cfg0.N, win0_3.index t 0 = t.val % 11 ∧ win0_3.index t 1 = 0 :=
  (by decide +kernel : ∀ t : Fin grid0.N, win0_3.index t 0 = t.val % 11 ∧ win0_3.index t 1 = 0)
theorem idx5 : ∀ t : Fin cfg0.N, win0_5.index t 0 = t.val / 11 ∧ win0_5.index t 1 = 0 :=
  (by decide +kernel : ∀ t : Fin grid0.N, win0_5.index t 0 = t.val / 11 ∧ win0_5.index t 1 = 0)

/-! ## The blocks, read at an index -/

theorem blk0 (c : Dev nD) (t : Fin cfg0.N) (r : Fin 1024) (k : Fin 2048) :
    iblk m c 0 t (ix2 r k) = (args m c).hf (ix2 (row t.val r) k) := by
  have e := idx0 t
  have ht := lt176 t
  refine congrArg (args m c).hf (funext fun a => Fin.ext ?_)
  match a with
  | ⟨0, _⟩ => show win0_0.index t 0 * 1024 + 1 * r.val = (1024 * (t.val / 11) + r.val) % 16384; rw [e.1]; omega
  | ⟨1, _⟩ => show win0_0.index t 1 * 2048 + 1 * k.val = k.val; rw [e.2]; omega

theorem blk1 (c : Dev nD) (t : Fin cfg0.N) (k : Fin 2048) (f : Fin 512) :
    iblk m c 1 t (ix2 k f) = (args m c).wg (ix2 k (FfnMath.unit (t.val % 11) f)) := by
  have e := idx1 t
  refine congrArg (args m c).wg (funext fun a => Fin.ext ?_)
  match a with
  | ⟨0, _⟩ => show win0_1.index t 0 * 2048 + 1 * k.val = k.val; rw [e.1]; omega
  | ⟨1, _⟩ => show win0_1.index t 1 * 512 + 1 * f.val = (512 * (t.val % 11) + f.val) % 5632; rw [e.2]; omega

theorem blk2 (c : Dev nD) (t : Fin cfg0.N) (k : Fin 2048) (f : Fin 512) :
    iblk m c 2 t (ix2 k f) = (args m c).wu (ix2 k (FfnMath.unit (t.val % 11) f)) := by
  have e := idx2 t
  refine congrArg (args m c).wu (funext fun a => Fin.ext ?_)
  match a with
  | ⟨0, _⟩ => show win0_2.index t 0 * 2048 + 1 * k.val = k.val; rw [e.1]; omega
  | ⟨1, _⟩ => show win0_2.index t 1 * 512 + 1 * f.val = (512 * (t.val % 11) + f.val) % 5632; rw [e.2]; omega

theorem blk3 (c : Dev nD) (t : Fin cfg0.N) (f : Fin 512) (d : Fin 2048) :
    iblk m c 3 t (ix2 f d) = (args m c).wd (ix2 (FfnMath.unit (t.val % 11) f) d) := by
  have e := idx3 t
  refine congrArg (args m c).wd (funext fun a => Fin.ext ?_)
  match a with
  | ⟨0, _⟩ => show win0_3.index t 0 * 512 + 1 * f.val = (512 * (t.val % 11) + f.val) % 5632; rw [e.1]; omega
  | ⟨1, _⟩ => show win0_3.index t 1 * 2048 + 1 * d.val = d.val; rw [e.2]; omega

theorem blk4 (c : Dev nD) (t : Fin cfg0.N) (j : Fin 1) (d : Fin 2048) : iblk m c 4 t (ix2 j d) = (args m c).g (ix2 j d) :=
  congrArg (args m c).g (funext fun a => Fin.ext (by match a with
    | ⟨0, _⟩ => show 0 * 1 + 1 * j.val = j.val; omega
    | ⟨1, _⟩ => show 0 * 2048 + 1 * d.val = d.val; omega))

/-- The residual's rows, which the kernel copies itself. -/
theorem residual (c : Dev nD) (t : Fin cfg0.N) (r : Fin 1024) (d : Fin 2048) :
    rowsOf (F := Ideal) c (grid0.coords t 0).val (V m c main_arg1) (ix2 r d) = (args m c).x (ix2 (row t.val r) d) := by
  have e := row_of t
  have ht := lt176 t
  refine congrArg (args m c).x (funext fun a => Fin.ext ?_)
  match a with
  | ⟨0, _⟩ => show (1024 * (grid0.coords t 0).val + r.val) % 16384 = (1024 * (t.val / 11) + r.val) % 16384; rw [e]; omega
  | ⟨1, _⟩ => rfl

/-! ## The accumulated product -/

/-- A block's product of one row and one unit is the arrays'. -/
theorem dot_congr (h : FVec Ideal S1024x2048 .bf16) (g : FVec Ideal S2048x512 .bf16) (r : Fin 1024) (k : Fin 512)
    (H : (⟨2, ![16384, 2048]⟩ : Shape).Idx → EReal) (W : (⟨2, ![2048, 5632]⟩ : Shape).Idx → EReal) (R : Fin 16384) (f : Fin 5632)
    (hh : ∀ e, h (ix2 r e) = H (ix2 R e)) (hg : ∀ e, g (ix2 e k) = W (ix2 e f)) :
    ∑ e : Fin 2048, h (ix2 r e) * g (ix2 e k) = ∑ e : Fin 2048, H (ix2 R e) * W (ix2 e f) :=
  Finset.sum_congr rfl fun e _ => congrArg₂ (fun a b : EReal => a * b) (hh e) (hg e)

/-- Points of one row block have the same rows. -/
theorem row_congr (n n' : ℕ) (h : n / 11 = n' / 11) (r : Fin 1024) : row n r = row n' r :=
  Fin.ext (by show (1024 * (n / 11) + r.val) % 16384 = (1024 * (n' / 11) + r.val) % 16384; rw [h])

/-- The gated unit a point computes. -/
theorem unit_eq (c : Dev nD) (t : Fin cfg0.N) (r : Fin 1024) (k : Fin 512) :
    unitAt (iblk m c 0 t) (iblk m c 1 t) (iblk m c 2 t) r k = FfnMath.act (args m c) (row t.val r) (FfnMath.unit (t.val % 11) k) := by
  unfold unitAt FfnMath.act FfnMath.gate FfnMath.up
  have hG := dot_congr (iblk m c 0 t) (iblk m c 1 t) r k (args m c).hf (args m c).wg (row t.val r) (FfnMath.unit (t.val % 11) k)
    (blk0 m c t r) (fun e => blk1 m c t e k)
  have hU := dot_congr (iblk m c 0 t) (iblk m c 2 t) r k (args m c).hf (args m c).wu (row t.val r) (FfnMath.unit (t.val % 11) k)
    (blk0 m c t r) (fun e => blk2 m c t e k)
  exact congrArg₂ (· * ·) (congrArg₂ (· * ·) hG (congrArg Ideal.logistic hG)) hU

/-- What a point's 512 units add. -/
theorem tile_eq (c : Dev nD) (t : Fin cfg0.N) (r : Fin 1024) (d : Fin 2048) (w : FVec Ideal S512x2048 .bf16) (hw : w = iblk m c 3 t) :
    ∑ k : Fin 512, unitAt (iblk m c 0 t) (iblk m c 1 t) (iblk m c 2 t) r k * w (ix2 k d)
      = FfnMath.tile (args m c) (t.val % 11) (row t.val r) d := by
  subst hw
  exact Finset.sum_congr rfl fun k _ => congrArg₂ (· * ·) (unit_eq m c t r k) (blk3 m c t k d)

theorem first_eq (c : Dev nD) (t : Fin cfg0.N) (r : Fin 1024) (d : Fin 2048) :
    firstAt m c t (ix2 r d) = FfnMath.tile (args m c) (t.val % 11) (row t.val r) d :=
  (pay_first _ _ _ _ r d).trans (tile_eq m c t r d _ rfl)

theorem later_eq (c : Dev nD) (t : Fin cfg0.N) (x : Vec Ideal S1024x2048 .f32) (r : Fin 1024) (d : Fin 2048) :
    laterAt m c t x (ix2 r d) = x (ix2 r d) + FfnMath.tile (args m c) (t.val % 11) (row t.val r) d :=
  (pay_later _ _ _ _ _ r d).trans (congrArg (_ + ·) (tile_eq m c t r d _ rfl))

/-- Before a row block's last point the output block holds the tiles so far. -/
theorem partial_eq (c : Dev nD) (r : Fin 1024) (d : Fin 2048) : ∀ (n : ℕ) (h : n < cfg0.N), n % 11 ≠ 10 →
    outAt m c n h (ix2 r d) = ∑ q ∈ Finset.range (n % 11 + 1), FfnMath.tile (args m c) q (row n r) d
  | 0, h, _ => by
    rw [outAt_first m c ⟨0, h⟩ rfl, first_eq]
    exact (Finset.sum_range_one (fun q => FfnMath.tile (args m c) q (row 0 r) d)).symm
  | n + 1, h, hl => by
    by_cases h0 : (n + 1) % 11 = 0
    · rw [outAt_first m c ⟨n + 1, h⟩ h0, first_eq, h0]
      exact (Finset.sum_range_one (fun q => FfnMath.tile (args m c) q (row (n + 1) r) d)).symm
    · have hn : n % 11 + 1 = (n + 1) % 11 := by omega
      have hrow : row n r = row (n + 1) r := row_congr n (n + 1) (by omega) r
      rw [outAt_later m c ⟨n + 1, h⟩ h0 hl, later_eq]
      refine (congrArg (· + _) (partial_eq c r d n (Nat.lt_of_succ_lt h) (by omega))).trans ?_
      rw [hn, hrow, Finset.sum_range_succ _ ((n + 1) % 11)]

/-- Its last point leaves the normalised rows. -/
theorem last_eq (c : Dev nD) (t : Fin cfg0.N) (h : t.val % 11 = 10) (r : Fin 1024) (d : Fin 2048) :
    outAt m c t.val t.isLt (ix2 r d) = FfnMath.nrm (args m c) (row t.val r) d := by
  rw [outAt_last m c t h]
  have hlt : t.val - 1 < cfg0.N := Nat.lt_of_le_of_lt (Nat.sub_le _ _) t.isLt
  have hrow : row (t.val - 1) r = row t.val r := row_congr (t.val - 1) t.val (by omega) r
  have hm : (t.val - 1) % 11 + 1 = 10 := by omega
  have e (q : Fin 2048) : rowsOf (F := Ideal) c (grid0.coords t 0).val (V m c main_arg1) (ix2 r q)
      + laterAt m c t (outAt m c (t.val - 1) hlt) (ix2 r q) = FfnMath.res (args m c) (row t.val r) q := by
    unfold FfnMath.res
    refine congrArg₂ (fun a b : EReal => a + b) (residual m c t r q) ?_
    rw [later_eq, partial_eq m c r q (t.val - 1) hlt (by omega), hrow, hm, h, ← Finset.sum_range_succ]
    exact FfnMath.sum_tiles (args m c) (row t.val r) q
  refine (norm_rows _ _ _ r d).trans ?_
  unfold FfnMath.nrm
  simp only [e]
  exact congrArg (_ * ·) (blk4 m c t 0 d)

/-! ## The array -/

/-- The result of device `c`. -/
def G (c : Dev nD) : Buf (Elt Ideal) ((c : Thread nD τ).loc main_v0) :=
  fun (i : S16384x2048.Idx) => FfnMath.nrm (args m c) (i 0) (i 1)

/-- An index is in point `t`'s block when its row is. -/
theorem mem5 (t : Fin cfg0.N) (i : S16384x2048.Idx) (h : 1024 * (t.val / 11) ≤ (i 0 : ℕ) ∧ (i 0 : ℕ) < 1024 * (t.val / 11) + 1024) :
    i ∈ ((cfg0.win 5).blk t).view.set := by
  show i ∈ ((View.whole main_v0).slice (win0_5.rect t)).set
  rw [View.set_slice_whole, Rect.mem_set_unit]
  have h1 : (i 1 : ℕ) < 2048 := (i 1).isLt
  have e := idx5 t
  intro a
  match a with
  | ⟨0, _⟩ => show win0_5.index t 0 * 1024 ≤ (i 0 : ℕ) ∧ (i 0 : ℕ) < win0_5.index t 0 * 1024 + 1024; rw [e.1]; omega
  | ⟨1, _⟩ => show win0_5.index t 1 * 2048 ≤ (i 1 : ℕ) ∧ (i 1 : ℕ) < win0_5.index t 1 * 2048 + 2048; rw [e.2]; omega

theorem cover5 (i : S16384x2048.Idx) : ∃ t : Fin cfg0.N, (cfg0.win 5).flush t = true ∧ i ∈ ((cfg0.win 5).blk t).view.set := by
  have h0 : (i 0 : ℕ) < 16384 := (i 0).isLt
  have hN : cfg0.N = 176 := N_0
  refine ⟨⟨11 * ((i 0 : ℕ) / 1024) + 10, by omega⟩, (flush0_5 _).2 ?_, mem5 _ i ?_⟩
  · dsimp only; omega
  · dsimp only; omega

theorem flushed5 (c : Dev nD) (t : Fin cfg0.N) (hf : (cfg0.win 5).flush t = true) :
    (dats m 0 c).flushed 5 t = ((cfg0.win 5).blk t).view.read (Elt Ideal) (G m c) := by
  have h10 := (flush0_5 t).1 hf
  have ht := lt176 t
  show (dats m 0 c).after 5 t = _
  rw [after_5]
  funext y
  obtain ⟨r, d, rfl⟩ : ∃ (r : Fin 1024) (d : Fin 2048), y = ix2 r d := ⟨y 0, y 1, by funext a; match a with | ⟨0, _⟩ => rfl | ⟨1, _⟩ => rfl⟩
  have e := idx5 t
  refine (last_eq m c t h10 r d).trans ?_
  show _ = FfnMath.nrm (args m c) _ _
  congr 1
  · exact Fin.ext (by show (1024 * (t.val / 11) + r.val) % 16384 = win0_5.index t 0 * 1024 + 1 * r.val; rw [e.1]; omega)
  · exact Fin.ext (by show d.val = win0_5.index t 1 * 2048 + 1 * d.val; rw [e.2]; omega)

theorem final5 (c : Dev nD) : (dats m 0 c).arrAt 5 cfg0.N = G m c :=
  (dats m 0 c).arrAt_eq_of_cover 5 (G m c) (flushed5 m c) cover5

end Cert.FfnIdeal.Body

end
-- ==== Proof.FfnRef.lean ====
/-
  The feed-forward reference's stages, read at an index: its result is the mathematics of the call. Position `s` of
  sequence `b` is row `2048 b + s` of the flat arrays.
-/
module

public import proofs.«01_k».proof.Proof.Gen.FfnRefIdeal.Read
public import proofs.«01_k».proof.Proof.FfnMath
public import Idealize.ShloMosaic.Lib.KernelVsHost
public import Idealize.ShloMosaic.Lib.IdealHost

@[expose] public section

set_option maxRecDepth 8000

noncomputable section

namespace Cert.FfnRefIdeal.Stages

open Idealize.ShloMosaic Idealize.ShloMosaic.Ideal
open Idealize.SL.Sem
open Cert.FfnRefIdeal.Read Cert.FfnRefIdeal.Gen

/-- Row of position `s` of sequence `b`. -/
def row (b : Fin 8) (s : Fin 2048) : Fin 16384 := ⟨2048 * b.val + s.val, by omega⟩

/-- An index of three coordinates is its coordinates. -/
theorem eq3 {n0 n1 n2 : ℕ} (i : (⟨3, ![n0, n1, n2]⟩ : Shape).Idx) (x : Fin n0) (y : Fin n1) (z : Fin n2)
    (hx : (i 0).val = x.val) (hy : (i 1).val = y.val) (hz : (i 2).val = z.val) : i = ix3 x y z := by
  funext j
  match j with
  | ⟨0, _⟩ => exact Fin.ext hx
  | ⟨1, _⟩ => exact Fin.ext hy
  | ⟨2, _⟩ => exact Fin.ext hz
theorem eq2 {n0 n1 : ℕ} (i : (⟨2, ![n0, n1]⟩ : Shape).Idx) (x : Fin n0) (y : Fin n1)
    (hx : (i 0).val = x.val) (hy : (i 1).val = y.val) : i = ix2 x y := by
  funext j
  match j with
  | ⟨0, _⟩ => exact Fin.ext hx
  | ⟨1, _⟩ => exact Fin.ext hy

variable (a : FfnMath.Args) (b : Fin 8) (s e : Fin 2048) (f : Fin 5632)

theorem hf_at : val_main_v1 (F := Ideal) a.hf (ix3 b s e) = a.hf (ix2 (row b s) e) := by
  rw [val_main_v1_apply]
  refine congrArg a.hf (funext fun i => Fin.ext ?_)
  match i with
  | ⟨0, _⟩ => show ((b.val * 2048 + s.val) * 2048 + e.val) / 2048 = 2048 * b.val + s.val; omega
  | ⟨1, _⟩ => show ((b.val * 2048 + s.val) * 2048 + e.val) % 2048 = e.val; omega

theorem x_at : val_main_v2 (F := Ideal) a.x (ix3 b s e) = a.x (ix2 (row b s) e) := by
  rw [val_main_v2_apply]
  refine congrArg a.x (funext fun i => Fin.ext ?_)
  match i with
  | ⟨0, _⟩ => show ((b.val * 2048 + s.val) * 2048 + e.val) / 2048 = 2048 * b.val + s.val; omega
  | ⟨1, _⟩ => show ((b.val * 2048 + s.val) * 2048 + e.val) % 2048 = e.val; omega

theorem gate_at : val_main_v4 (F := Ideal) a.hf a.wg (ix3 b s f) = FfnMath.gate a (row b s) f := by
  rw [val_main_v4_apply]
  refine Finset.sum_congr rfl fun k _ => ?_
  rw [eq3 (lidx_main_v4 (ix3 b s f) k) b s k rfl rfl rfl, hf_at, eq2 (ridx_main_v4 (ix3 b s f) k) k f rfl rfl]
  rfl
theorem up_at : val_main_v7 (F := Ideal) a.hf a.wu (ix3 b s f) = FfnMath.up a (row b s) f := by
  rw [val_main_v7_apply]
  refine Finset.sum_congr rfl fun k _ => ?_
  rw [eq3 (lidx_main_v7 (ix3 b s f) k) b s k rfl rfl rfl, hf_at, eq2 (ridx_main_v7 (ix3 b s f) k) k f rfl rfl]
  rfl

/-- The quotient the reference writes the logistic as. -/
theorem logistic_at : val_main_call0_v5 (F := Ideal) a.hf a.wg (ix3 b s f) = Ideal.logistic (FfnMath.gate a (row b s) f) := by
  rw [val_main_call0_v5_apply, val_main_call0_v4_apply, val_main_call0_v3_apply, val_main_call0_v2_apply, val_main_call0_v1_apply,
    val_main_call0_v0_apply, val_main_call0_cst_apply, val_main_call0_cst_0_apply, gate_at]
  show Ideal.div (Ideal.ofBits .f32 0x3F800000#32) (Ideal.ofBits .f32 0x3F800000#32 + _) = _
  rw [ofBits_one_f32]
  rfl

theorem act_at : val_main_v8 (F := Ideal) a.hf a.wg a.wu (ix3 b s f) = FfnMath.act a (row b s) f := by
  rw [val_main_v8_apply, val_main_v5_apply, logistic_at, gate_at, up_at]
  rfl

theorem res_at : val_main_v11 (F := Ideal) a.hf a.x a.wg a.wu a.wd (ix3 b s e) = FfnMath.res a (row b s) e := by
  rw [val_main_v11_apply, x_at, val_main_v10_apply]
  refine congrArg (_ + ·) (Finset.sum_congr rfl fun k _ => ?_)
  rw [eq3 (lidx_main_v10 (ix3 b s e) k) b s k rfl rfl rfl, act_at, eq2 (ridx_main_v10 (ix3 b s e) k) k e rfl rfl]
  rfl

theorem square_at (i : S8x2048.Idx) (hi0 : (i 0).val = b.val) (hi1 : (i 1).val = s.val) :
    val_main_v13 (F := Ideal) a.hf a.x a.wg a.wu a.wd i = ∑ d : Fin 2048, FfnMath.res a (row b s) d * FfnMath.res a (row b s) d := by
  rw [val_main_v13_apply]
  show Ideal.ofBits .f32 0x00000000#32 + _ = _
  rw [ofBits_zero_f32, zero_add]
  refine Finset.sum_congr rfl fun k _ => ?_
  rw [eq3 (idx_main_v13 i k) b s k hi0 hi1 rfl, val_main_v12_apply, res_at]
  rfl

theorem gain_at : val_main_v24 (F := Ideal) a.g (ix3 b s e) = a.g (ix2 0 e) := by
  rw [val_main_v24_apply, val_main_v23_apply, val_main_v22_apply]
  exact congrArg a.g (eq2 _ _ _ rfl (Nat.mod_eq_of_lt e.isLt))

theorem norm_at : val_main_v25 (F := Ideal) a.hf a.x a.wg a.wu a.wd a.g (ix3 b s e) = FfnMath.nrm a (row b s) e := by
  rw [val_main_v25_apply, val_main_v21_apply, res_at, gain_at, val_main_v20_apply, val_main_v19_apply, val_main_v18_apply,
    val_main_v17_apply, val_main_v16_apply, val_main_v15_apply, val_main_v14_apply, square_at a b s _ rfl rfl]
  rfl

/-- The result. -/
theorem v26_at (R : Fin 16384) (d : Fin 2048) :
    val_main_v26 (F := Ideal) a.hf a.x a.wg a.wu a.wd a.g (ix2 R d) = FfnMath.nrm a R d := by
  rw [val_main_v26_apply, eq3 (idx_main_v26 (ix2 R d)) ⟨R.val / 2048, by omega⟩ ⟨R.val % 2048, by omega⟩ d
    (by show (R.val * 2048 + d.val) / 4194304 = R.val / 2048; omega)
    (by show (R.val * 2048 + d.val) / 2048 % 2048 = R.val % 2048; omega)
    (by show (R.val * 2048 + d.val) % 2048 = d.val; omega), norm_at]
  congr 1
  exact Fin.ext (by show 2048 * (R.val / 2048) + R.val % 2048 = R.val; omega)

end Cert.FfnRefIdeal.Stages

end
-- ==== Proof.FfnClaim.lean ====
/-
  The claims about the feed-forward call: both programs end with the array `FfnMath` gives at their arguments.
-/
module

public import proofs.«01_k».proof.Defs
public import proofs.«01_k».proof.Proof.FfnArray
public import proofs.«01_k».proof.Proof.FfnRef

@[expose] public section

noncomputable section

namespace Cert.FfnClaim

open Idealize.ShloMosaic Idealize.ShloMosaic.TcCoe Idealize.SL.Sem

/-- The reference's arguments, as the mathematics takes them. -/
def refArgs (m : (ℓ : Loc FfnRefIdeal.nD FfnRefIdeal.τ FfnRefIdeal.sig) → Buf (Elt Ideal) ℓ) (c : Dev FfnRefIdeal.nD) : FfnMath.Args where
  hf := m ((c.tc : Thread FfnRefIdeal.nD FfnRefIdeal.τ).loc FfnRefIdeal.main_arg0)
  x := m ((c.tc : Thread FfnRefIdeal.nD FfnRefIdeal.τ).loc FfnRefIdeal.main_arg1)
  wg := m ((c.tc : Thread FfnRefIdeal.nD FfnRefIdeal.τ).loc FfnRefIdeal.main_arg2)
  wu := m ((c.tc : Thread FfnRefIdeal.nD FfnRefIdeal.τ).loc FfnRefIdeal.main_arg3)
  wd := m ((c.tc : Thread FfnRefIdeal.nD FfnRefIdeal.τ).loc FfnRefIdeal.main_arg4)
  g := m ((c.tc : Thread FfnRefIdeal.nD FfnRefIdeal.τ).loc FfnRefIdeal.main_arg5)

theorem ref_out (m : (ℓ : Loc FfnRefIdeal.nD FfnRefIdeal.τ FfnRefIdeal.sig) → Buf (Elt Ideal) ℓ) (c : Dev FfnRefIdeal.nD) :
    FfnRefIdeal.Value.res_main_v26 m c = fun i : FfnRefIdeal.S16384x2048.Idx => FfnMath.nrm (refArgs m c) (i 0) (i 1) := by
  rw [FfnRefIdeal.Read.val_main_v26_eq]
  funext i
  rw [FfnRefIdeal.Stages.eq2 i (i 0) (i 1) rfl rfl]
  exact FfnRefIdeal.Stages.v26_at (refArgs m c) (i 0) (i 1)

/-- The reference's run ends with its arguments unchanged and, having no semaphore, every counter at zero. -/
theorem frame_ref : Cert.quiescent_FfnRefIdeal := fun m ρ _ =>
  (θ_run FfnRefIdeal.defs _ _).mono (fun r h => ⟨fun c => (h c).2, sem_eq_zero_of_no_sems (by decide) r.2⟩)
    (FfnRefIdeal.Value.run (F := Ideal) m ρ)

theorem algebraic : Cert.algebraic_FfnIdeal_FfnRefIdeal := by
  intro m ρ m' ρ' _ hagree
  have e (c : Dev FfnIdeal.nD) : refArgs m' c = FfnIdeal.Body.args m c := by
    obtain ⟨h0, h1, h2, h3, h4, h5⟩ := hagree c
    unfold refArgs FfnIdeal.Body.args
    rw [h0, h1, h2, h3, h4, h5]
  refine ⟨fun c => FfnIdeal.Body.G m c, ?_, ?_⟩
  · exact (θ_run FfnIdeal.defs _ _).mono
      (fun r h c => ⟨((h.1 c).1 5).trans (FfnIdeal.Body.final5 m c), h.2 c⟩)
      (θ_run_and (FfnIdeal.Body.run_main m ρ) (FfnIdeal.Body.unchanged m ρ))
  · exact (θ_run FfnRefIdeal.defs _ _).mono
      (fun r h c => ⟨((h c).1.trans (ref_out m' c)).trans (by rw [e c]; rfl), (h c).2⟩)
      (FfnRefIdeal.Value.run (F := Ideal) m' ρ')

end Cert.FfnClaim

end
-- ==== Proof.InIdeal.Setup.lean ====
/- The launch of the input projection: what its one pipelined call stages, and the pieces every later module speaks
   about — the windows' blocks, the body's branch condition in closed form, the staging buffers and the scratch buffer.
   (Follows the generated set-up of a launch.) -/
module

public import proofs.«01_k».proof.Proof.Gen.InIdeal.Launch
public import proofs.«01_k».proof.Proof.Gen.InIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.InIdeal.Body

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ)

/-- A core's buffers when the pipelined call begins: as launched. -/
abbrev V (c : Dev nD) (b : Ref sig .tc) : Buf (Elt F) ((c : Thread nD τ).loc b) := m ((c : Thread nD τ).loc b)

set_option maxHeartbeats 800000 in
/-- `main` is the pipelined call alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's one branch, the norm and the gates: at the points ≡ 0 (mod 8). -/
abbrev isFirst (i : grid0.Coords) : Prop := k0_cond1 i = 1#1
theorem isFirst_iff : ∀ t : Fin cfg0.N, isFirst (grid0.coords t) ↔ t.val % 8 = 0 :=
  (by decide +kernel : ∀ t : Fin grid0.N, isFirst (grid0.coords t) ↔ t.val % 8 = 0)

/-- Each window's staging buffer at a point. -/
abbrev ms_0 (t : Fin cfg0.N) : Memref sig .tc .vmem S1024x2048 .f32 := win0_0.stage (cfg0.slots t 0)
abbrev ms_1 (t : Fin cfg0.N) : Memref sig .tc .vmem S1x2048 .f32 := win0_1.stage (cfg0.slots t 1)
abbrev ms_2 (t : Fin cfg0.N) : Memref sig .tc .vmem S2048x2048 .bf16 := win0_2.stage (cfg0.slots t 2)
abbrev ms_3 (t : Fin cfg0.N) : Memref sig .tc .vmem S2048x256 .bf16 := win0_3.stage (cfg0.slots t 3)
abbrev ms_4 (t : Fin cfg0.N) : Memref sig .tc .vmem S16x2048 .f32 := win0_4.stage (cfg0.slots t 4)
abbrev ms_5 (t : Fin cfg0.N) : Memref sig .tc .vmem S16x2048 .f32 := win0_5.stage (cfg0.slots t 5)
abbrev ms_6 (t : Fin cfg0.N) : Memref sig .tc .vmem S16x2048 .f32 := win0_6.stage (cfg0.slots t 6)
abbrev ms_7 (t : Fin cfg0.N) : Memref sig .tc .vmem S16x5632 .f32 := win0_7.stage (cfg0.slots t 7)
abbrev ms_8 (t : Fin cfg0.N) : Memref sig .tc .vmem S16x5632 .f32 := win0_8.stage (cfg0.slots t 8)
abbrev ms_9 (t : Fin cfg0.N) : Memref sig .tc .vmem S64x2048 .f32 := win0_9.stage (cfg0.slots t 9)
abbrev ms_10 (t : Fin cfg0.N) : Memref sig .tc .vmem S1024x2048 .bf16 := win0_10.stage (cfg0.slots t 10)
abbrev ms_11 (t : Fin cfg0.N) : Memref sig .tc .vmem S1024x256 .f32 := win0_11.stage (cfg0.slots t 11)
abbrev ms_12 (t : Fin cfg0.N) : Memref sig .tc .vmem S16x2048 .bf16 := win0_12.stage (cfg0.slots t 12)
abbrev ms_13 (t : Fin cfg0.N) : Memref sig .tc .vmem S16x2048 .bf16 := win0_13.stage (cfg0.slots t 13)
abbrev ms_14 (t : Fin cfg0.N) : Memref sig .tc .vmem S16x2048 .bf16 := win0_14.stage (cfg0.slots t 14)
abbrev ms_15 (t : Fin cfg0.N) : Memref sig .tc .vmem S16x5632 .bf16 := win0_15.stage (cfg0.slots t 15)
abbrev ms_16 (t : Fin cfg0.N) : Memref sig .tc .vmem S16x5632 .bf16 := win0_16.stage (cfg0.slots t 16)
abbrev ms_17 (t : Fin cfg0.N) : Memref sig .tc .vmem S64x2048 .bf16 := win0_17.stage (cfg0.slots t 17)

/-- The scratch buffer, the normalised rows. -/
abbrev hM : Memref sig .tc .vmem S1024x2048 .bf16 := Memref.whole cc0_scratch0

/-- The body has no semaphore of its own and reads no array itself. -/
abbrev osem : Fin 0 → SemLoc sig := Fin.elim0
theorem ownSemFacts : Pipeline.OwnSemFacts spec0 osem := by decide

/-- What the body holds beside its windows at a row block's first point. -/
theorem PhiD_eq (c : Dev nD) :
    (Pipeline.ΦD osem spec0 ∅ (V m) c : sProp 𝕄)
      = iprop(iprop((∃ d, owns (c : Thread nD τ) hM fullShare d)) ∗ (∃ r, prngReg c r) ∗ Pipeline.ownSems0 osem c ∗ bigSep ∅ (fun b => ((c : Thread nD τ).loc b) ↦{fullShare} V m c b)) := by
  rw [Pipeline.ΦD_eq, scopedRest0_eq]; simp only [hM, owns_whole]; try rfl

end Cert.InIdeal.Body

end
-- ==== Proof.InIdeal.Run.lean ====
/- The body of the input projection run at one grid point, in its two cases: what each buffer holds afterwards. -/
module

public import proofs.«01_k».proof.Proof.InIdeal.Setup
public import proofs.«01_k».proof.Proof.Gen.InIdeal.Skeleton
public import Idealize.ShloMosaic.Lib.VecWindow
public import Idealize.ShloMosaic.Lib.Pipeline.ValueKit.Geometry

@[expose] public section

set_option maxRecDepth 16384

noncomputable section

namespace Cert.InIdeal.Body

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem load_unread {sp : Space} {S : Shape} {e : EltTy} {M : Memref sig .tc sp S e} (h : M.IsWhole) (x : S.Idx → Elt F e) {off : Fin S.rank → ℕ}
    (inb : ∀ a, off a + S.size a ≤ S.size a) : M.view.readAt (Elt F) (Rect.unit off S.size inb).toLoadRect (h.unread x) = x :=
  (View.readAt_full _ _ inb).trans (h.read_unread x)

set_option maxHeartbeats 2000000 in
/-- The body at a row block's first point: it fills the scratch buffer and the gates' block, and goes on as at every point. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x256 .bf16) (harg5 : arg5.IsWhole) (arg6 : Memref sig .tc .vmem S16x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S16x5632 .f32) (harg9 : arg9.IsWhole) (arg10 : Memref sig .tc .vmem S16x5632 .f32) (harg10 : arg10.IsWhole) (arg11 : Memref sig .tc .vmem S64x2048 .f32) (harg11 : arg11.IsWhole) (arg12 : Memref sig .tc .vmem S1024x2048 .bf16) (harg12 : arg12.IsWhole) (arg13 : Memref sig .tc .vmem S1024x256 .f32) (harg13 : arg13.IsWhole) (arg14 : Memref sig .tc .vmem S16x2048 .bf16) (harg14 : arg14.IsWhole) (arg15 : Memref sig .tc .vmem S16x2048 .bf16) (harg15 : arg15.IsWhole) (arg16 : Memref sig .tc .vmem S16x2048 .bf16) (harg16 : arg16.IsWhole) (arg17 : Memref sig .tc .vmem S16x5632 .bf16) (harg17 : arg17.IsWhole) (arg18 : Memref sig .tc .vmem S16x5632 .bf16) (harg18 : arg18.IsWhole) (arg19 : Memref sig .tc .vmem S64x2048 .bf16) (harg19 : arg19.IsWhole) (arg20 : Memref sig .tc .vmem S1024x2048 .bf16) (harg20 : arg20.IsWhole) (hc : isFirst i)
    (x0 : Vec F S1024x2048 .f32) (x1 : Vec F S1x2048 .f32) (x2 : Vec F S2048x2048 .bf16) (x3 : Vec F S2048x256 .bf16) (x4 : Vec F S16x2048 .f32) (x5 : Vec F S16x2048 .f32) (x6 : Vec F S16x2048 .f32) (x7 : Vec F S16x5632 .f32) (x8 : Vec F S16x5632 .f32) (x9 : Vec F S64x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay7 i (k0_pay5 x0 x1) x2) ∗ owns (c : Thread nD τ) arg13 fullShare (k0_pay6 x0 x1 x3) ∗ owns (c : Thread nD τ) arg14 fullShare (k0_pay8 x4) ∗ owns (c : Thread nD τ) arg15 fullShare (k0_pay9 x5) ∗ owns (c : Thread nD τ) arg16 fullShare (k0_pay10 x6) ∗ owns (c : Thread nD τ) arg17 fullShare (k0_pay1 x7) ∗ owns (c : Thread nD τ) arg18 fullShare (k0_pay2 x8) ∗ owns (c : Thread nD τ) arg19 fullShare (k0_pay3 x9) ∗ owns (c : Thread nD τ) arg20 fullShare (k0_pay5 x0 x1)) -∗ K ⟨⟩))
      ⊢ wp frame (wpE (defs₀ (F := F)) Variants.none c none) Set.univ (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_inproj_eq_skeleton]; unfold cc0_inproj_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    rw [View.read_writes_full]; unfold run_first.sl.v3 run_first.sl.H18_1; rw [View.readCov_full, load_unread harg2, load_unread harg3, load_unread harg4]
  isplitl [H11]
  · iexists _; isplitr; swap; · iexact H11
    ipureintro
    rw [View.read_writes_full, load_unread harg2, load_unread harg3, load_unread harg5]
  isplitl [H12]
  · iexists _; isplitr; swap; · iexact H12
    ipureintro
    rw [View.read_writes_full, load_unread harg6]
  isplitl [H13]
  · iexists _; isplitr; swap; · iexact H13
    ipureintro
    rw [View.read_writes_full, load_unread harg7]
  isplitl [H14]
  · iexists _; isplitr; swap; · iexact H14
    ipureintro
    rw [View.read_writes_full, load_unread harg8]
  isplitl [H15]
  · iexists _; isplitr; swap; · iexact H15
    ipureintro
    rw [View.read_writes_full, load_unread harg9]
  isplitl [H16]
  · iexists _; isplitr; swap; · iexact H16
    ipureintro
    rw [View.read_writes_full, load_unread harg10]
  isplitl [H17]
  · iexists _; isplitr; swap; · iexact H17
    ipureintro
    rw [View.read_writes_full, load_unread harg11]
  iexists _; isplitr; swap; · iexact H18
  ipureintro
  unfold run_first.sl.H18_1; rw [View.read_writes_full, load_unread harg2, load_unread harg3]

set_option maxHeartbeats 2000000 in
/-- The body at a later point of a row block: it reads the scratch buffer and leaves the gates' block alone. -/
theorem run_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x256 .bf16) (harg5 : arg5.IsWhole) (arg6 : Memref sig .tc .vmem S16x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S16x5632 .f32) (harg9 : arg9.IsWhole) (arg10 : Memref sig .tc .vmem S16x5632 .f32) (harg10 : arg10.IsWhole) (arg11 : Memref sig .tc .vmem S64x2048 .f32) (harg11 : arg11.IsWhole) (arg12 : Memref sig .tc .vmem S1024x2048 .bf16) (harg12 : arg12.IsWhole) (arg13 : Memref sig .tc .vmem S1024x256 .f32) (harg13 : arg13.IsWhole) (arg14 : Memref sig .tc .vmem S16x2048 .bf16) (harg14 : arg14.IsWhole) (arg15 : Memref sig .tc .vmem S16x2048 .bf16) (harg15 : arg15.IsWhole) (arg16 : Memref sig .tc .vmem S16x2048 .bf16) (harg16 : arg16.IsWhole) (arg17 : Memref sig .tc .vmem S16x5632 .bf16) (harg17 : arg17.IsWhole) (arg18 : Memref sig .tc .vmem S16x5632 .bf16) (harg18 : arg18.IsWhole) (arg19 : Memref sig .tc .vmem S64x2048 .bf16) (harg19 : arg19.IsWhole) (arg20 : Memref sig .tc .vmem S1024x2048 .bf16) (harg20 : arg20.IsWhole) (hc : ¬isFirst i)
    (x2 : Vec F S2048x2048 .bf16) (x4 : Vec F S16x2048 .f32) (x5 : Vec F S16x2048 .f32) (x6 : Vec F S16x2048 .f32) (x7 : Vec F S16x5632 .f32) (x8 : Vec F S16x5632 .f32) (x9 : Vec F S64x2048 .f32) (s : Vec F S1024x2048 .bf16) (K : PUnit → sProp 𝕄) :
    iprop(owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg20 fullShare s ∗ (∃ d, owns (c : Thread nD τ) arg12 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg20 fullShare s ∗ owns (c : Thread nD τ) arg12 fullShare (k0_pay7 i s x2) ∗ owns (c : Thread nD τ) arg14 fullShare (k0_pay8 x4) ∗ owns (c : Thread nD τ) arg15 fullShare (k0_pay9 x5) ∗ owns (c : Thread nD τ) arg16 fullShare (k0_pay10 x6) ∗ owns (c : Thread nD τ) arg17 fullShare (k0_pay1 x7) ∗ owns (c : Thread nD τ) arg18 fullShare (k0_pay2 x8) ∗ owns (c : Thread nD τ) arg19 fullShare (k0_pay3 x9)) -∗ K ⟨⟩))
      ⊢ wp frame (wpE (defs₀ (F := F)) Variants.none c none) Set.univ (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_inproj_eq_skeleton]; unfold cc0_inproj_skel
  simp only [k0_part1_eq_skeleton]; unfold k0_part1_skel
  unfold owns
  iintro ⟨⟨%f2, %hf2, H2⟩, ⟨%f4, %hf4, H4⟩, ⟨%f5, %hf5, H5⟩, ⟨%f6, %hf6, H6⟩, ⟨%f7, %hf7, H7⟩, ⟨%f8, %hf8, H8⟩, ⟨%f9, %hf9, H9⟩, ⟨%f18, %hf18, H18⟩, ⟨%d10, %f10, -, H10⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg4.eq_unread hf2; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg20.eq_unread hf18
  sl_exec (disch := sl_exact hc)
  sl_step
  iapply Hk
  isplitl [H2]
  · iexists _; isplitr; · ipureintro; exact harg4.read_unread _
    iexact H2
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H18]
  · iexists _; isplitr; · ipureintro; exact harg20.read_unread _
    iexact H18
  isplitl [H10]
  · iexists _; isplitr; swap; · iexact H10
    ipureintro
    rw [View.read_writes_full, load_unread harg20, load_unread harg4]
  isplitl [H12]
  · iexists _; isplitr; swap; · iexact H12
    ipureintro
    rw [View.read_writes_full, load_unread harg6]
  isplitl [H13]
  · iexists _; isplitr; swap; · iexact H13
    ipureintro
    rw [View.read_writes_full, load_unread harg7]
  isplitl [H14]
  · iexists _; isplitr; swap; · iexact H14
    ipureintro
    rw [View.read_writes_full, load_unread harg8]
  isplitl [H15]
  · iexists _; isplitr; swap; · iexact H15
    ipureintro
    rw [View.read_writes_full, load_unread harg9]
  isplitl [H16]
  · iexists _; isplitr; swap; · iexact H16
    ipureintro
    rw [View.read_writes_full, load_unread harg10]
  iexists _; isplitr; swap; · iexact H17
  ipureintro
  rw [View.read_writes_full, load_unread harg11]

end Cert.InIdeal.Body

end
-- ==== Proof.InIdeal.Frame.lean ====
/- The frame of the input projection: what each output block holds after each point, the invariant that carries the
   normalised rows in the scratch buffer through a row block, the body's obligation at every point, and the launch. -/
module

public import proofs.«01_k».proof.Proof.InIdeal.Run
public import Idealize.ShloMosaic.Lib.Claim

@[expose] public section

set_option maxRecDepth 16384

noncomputable section

namespace Cert.InIdeal.Body

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the buffers hold -/

/-- The first point of point `n`'s row block. -/
def start (n : ℕ) : Fin cfg0.N := ⟨n / 8 % 16 * 8, Nat.lt_of_lt_of_eq (by omega) N_0.symm⟩

theorem start_self (t : Fin cfg0.N) (h : t.val % 8 = 0) : start t.val = t :=
  Fin.ext (by have := Nat.lt_of_lt_of_eq t.isLt N_0; show t.val / 8 % 16 * 8 = t.val; omega)
theorem start_congr {a b : ℕ} (h : a / 8 = b / 8) : start a = start b := Fin.ext (by show a / 8 % 16 * 8 = b / 8 % 16 * 8; rw [h])

/-- The normalised rows of point `n`'s row block: what the scratch buffer holds. -/
def rowsAt (c : Dev nD) (n : ℕ) : Vec F S1024x2048 .bf16 := k0_pay5 (iblk m c 0 (start n)) (iblk m c 1 (start n))

/-- The projection's block after point `t`. -/
def projAt (c : Dev nD) (t : Fin cfg0.N) : Vec F S1024x2048 .bf16 := k0_pay7 (grid0.coords t) (rowsAt m c t.val) (iblk m c 2 t)

/-- The gates' block after point `t`. -/
def gateAt (c : Dev nD) (t : Fin cfg0.N) : Vec F S1024x256 .f32 :=
  k0_pay6 (iblk m c 0 (start t.val)) (iblk m c 1 (start t.val)) (iblk m c 3 (start t.val))

theorem rowsAt_congr (c : Dev nD) {a b : ℕ} (h : a / 8 = b / 8) : rowsAt m c a = rowsAt m c b := by
  unfold rowsAt; rw [start_congr h]
theorem gateAt_congr (c : Dev nD) {a b : Fin cfg0.N} (h : a.val / 8 = b.val / 8) : gateAt m c a = gateAt m c b := by
  unfold gateAt; rw [start_congr h]

/-! ## The proof data -/

/-- Inside a row block: the scratch buffer at the normalised rows, and the rest as at the first point. -/
def Inside (c : Dev nD) (n : ℕ) : sProp 𝕄 :=
  iprop(owns (c : Thread nD τ) hM fullShare (rowsAt m c n) ∗ (∃ r, prngReg c r) ∗ Pipeline.ownSems0 osem c ∗ bigSep ∅ (fun b => ((c : Thread nD τ).loc b) ↦{fullShare} V m c b))

/-- Before point `n`: at a row block's first point nothing is known of the scratch buffer, elsewhere it holds the rows. -/
def Between (c : Dev nD) (n : ℕ) : sProp 𝕄 :=
  if n % 8 = 0 then Pipeline.ΦD osem spec0 ∅ (V m) c else Inside m c n

/-- The scratch buffer's contents may be forgotten. -/
theorem Inside_forget (c : Dev nD) (n : ℕ) : Inside m c n ⊢ Pipeline.ΦD osem spec0 ∅ (V m) c := by
  rw [PhiD_eq]; unfold Inside
  iintro ⟨Hs, Hr⟩
  isplitl [Hs]; · iexists _; iexact Hs
  iexact Hr

/-- After point `n` the scratch buffer holds the rows of point `n`'s block, which is all the next point asks. -/
theorem Inside_next (c : Dev nD) (n : ℕ) : Inside m c n ⊢ Between m c (n + 1) := by
  unfold Between
  split
  · exact Inside_forget m c n
  · next h => unfold Inside; rw [rowsAt_congr m c (show n / 8 = (n + 1) / 8 by omega)]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => projAt m c t
    | ⟨11, _⟩ => gateAt m c t
    | ⟨12, _⟩ => k0_pay8 (iblk m c 4 t)
    | ⟨13, _⟩ => k0_pay9 (iblk m c 5 t)
    | ⟨14, _⟩ => k0_pay10 (iblk m c 6 t)
    | ⟨15, _⟩ => k0_pay1 (iblk m c 7 t)
    | ⟨16, _⟩ => k0_pay2 (iblk m c 8 t)
    | ⟨17, _⟩ => k0_pay3 (iblk m c 9 t)
    | ⟨_ + 18, h⟩ => absurd h (Nat.not_lt.2 (Nat.le_add_left _ _))
  Φ n := Between m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = projAt m c t := by dsimp only [dats]
theorem after_11 (c : Dev nD) (t : Fin cfg0.N) : (dats m 0 c).after 11 t = gateAt m c t := by dsimp only [dats]
theorem after_12 (c : Dev nD) (t : Fin cfg0.N) : (dats m 0 c).after 12 t = k0_pay8 (iblk m c 4 t) := by dsimp only [dats]
theorem after_13 (c : Dev nD) (t : Fin cfg0.N) : (dats m 0 c).after 13 t = k0_pay9 (iblk m c 5 t) := by dsimp only [dats]
theorem after_14 (c : Dev nD) (t : Fin cfg0.N) : (dats m 0 c).after 14 t = k0_pay10 (iblk m c 6 t) := by dsimp only [dats]
theorem after_15 (c : Dev nD) (t : Fin cfg0.N) : (dats m 0 c).after 15 t = k0_pay1 (iblk m c 7 t) := by dsimp only [dats]
theorem after_16 (c : Dev nD) (t : Fin cfg0.N) : (dats m 0 c).after 16 t = k0_pay2 (iblk m c 8 t) := by dsimp only [dats]
theorem after_17 (c : Dev nD) (t : Fin cfg0.N) : (dats m 0 c).after 17 t = k0_pay3 (iblk m c 9 t) := by dsimp only [dats]

/-- An input window's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-- The gates' window is idle exactly at the points that are no row block's first. -/
theorem idle_11 : ∀ t : Fin cfg0.N, cfg0.idle 11 (grid0.coords t) = true ↔ t.val % 8 ≠ 0 :=
  (by decide +kernel : ∀ t : Fin grid0.N, (!(k0_cond1 (grid0.coords t) == 1#1)) = true ↔ t.val % 8 ≠ 0)

/-- Within a row block the gates' buffer holds what the first point left. -/
theorem before_11 (c : Dev nD) : ∀ (k : ℕ) (t : Fin cfg0.N), t.val % 8 = k + 1 → ∀ d, (dats m 0 c).before 11 t d = gateAt m c t := by
  intro k
  induction k with
  | zero =>
    intro t h d
    have h0 : t.val ≠ 0 := by omega
    refine (((dats m 0 c).before_of_pos 11 t h0 rfl d).trans (if_neg ?_)).trans ?_
    · rw [flush0_11]; dsimp only; omega
    · have hi : cfg0.idle 11 (grid0.coords ⟨t.val - 1, Nat.lt_of_le_of_lt (Nat.sub_le _ _) t.isLt⟩) = false :=
        Bool.eq_false_iff.2 fun hi => (idle_11 _).1 hi (by dsimp only; omega)
      unfold Dat.left
      rw [hi]
      exact (after_11 m c _).trans (gateAt_congr m c (by dsimp only; omega))
  | succ k ih =>
    intro t h d
    have h0 : t.val ≠ 0 := by omega
    refine (((dats m 0 c).before_of_pos 11 t h0 rfl d).trans (if_neg ?_)).trans ?_
    · rw [flush0_11]; dsimp only; omega
    · have hi : cfg0.idle 11 (grid0.coords ⟨t.val - 1, Nat.lt_of_le_of_lt (Nat.sub_le _ _) t.isLt⟩) = true :=
        (idle_11 _).2 (by dsimp only; omega)
      unfold Dat.left
      rw [hi]
      have hlt : t.val - 1 < cfg0.N := Nat.lt_of_le_of_lt (Nat.sub_le _ _) t.isLt
      have hp : (dats m 0 c).before 11 ⟨t.val - 1, hlt⟩ d = gateAt m c ⟨t.val - 1, hlt⟩ := ih ⟨t.val - 1, hlt⟩ (by dsimp only; omega) d
      have hg : gateAt m c ⟨t.val - 1, hlt⟩ = gateAt m c t := gateAt_congr m c (by dsimp only; omega)
      exact hp.trans hg

/-- What the body must leave in the gates' buffer: at every point the row block's gates will do. -/
theorem leaves_11 (c : Dev nD) (t : Fin cfg0.N) : owns (c : Thread nD τ) (ms_11 t) fullShare (gateAt m c t) ⊢ (dats m 0 c).leavesExact 11 t := by
  by_cases h0 : t.val % 8 = 0
  · have hi : cfg0.idle 11 (grid0.coords t) = false := Bool.eq_false_iff.2 fun hi => (idle_11 _).1 hi h0
    unfold Dat.leavesExact; rw [hi, after_11]
  · by_cases h7 : t.val % 8 = 7
    · unfold Dat.leavesExact; rw [(idle_11 t).2 h0, (flush0_11 t).2 h7, after_11]
    · rw [(dats m 0 c).leavesExact_idle 11 t ((idle_11 t).2 h0) (Bool.eq_false_iff.2 fun hf => h7 ((flush0_11 t).1 hf))]
      iintro H; iexists (gateAt m c t)
      rw [before_11 m c (t.val % 8 - 1) t (by omega)]
      iexact H

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d))
    ∗ (∃ d, owns (c : Thread nD τ) (ms_16 t) fullShare ((dats m 0 c).before 16 t d))
    ∗ (∃ d, owns (c : Thread nD τ) (ms_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ (dats m 0 c).leavesExact 11 t
    ∗ owns (c : Thread nD τ) (ms_12 t) fullShare ((dats m 0 c).after 12 t)
    ∗ owns (c : Thread nD τ) (ms_13 t) fullShare ((dats m 0 c).after 13 t)
    ∗ owns (c : Thread nD τ) (ms_14 t) fullShare ((dats m 0 c).after 14 t)
    ∗ owns (c : Thread nD τ) (ms_15 t) fullShare ((dats m 0 c).after 15 t)
    ∗ owns (c : Thread nD τ) (ms_16 t) fullShare ((dats m 0 c).after 16 t)
    ∗ owns (c : Thread nD τ) (ms_17 t) fullShare ((dats m 0 c).after 17 t))

theorem Phi_before (c : Dev nD) (t : Fin cfg0.N) : (dats m 0 c).Φ t.castSucc = Between m c t.val := by dsimp only [dats]; rfl
theorem Phi_after (c : Dev nD) (t : Fin cfg0.N) : (dats m 0 c).Φ t.succ = Between m c (t.val + 1) := by dsimp only [dats]; rfl

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [Phi_before, Phi_after, after_0, after_1, after_2, after_3, after_4, after_5, after_6, after_7, after_8, after_9, after_10, after_12, after_13, after_14, after_15, after_16, after_17]
  rw [show (dats m 0 c).owesAt () t.succ = (dats m 0 c).owesAt () t.castSucc from rfl]
  by_cases h0 : t.val % 8 = 0
  · rw [show Between m c t.val = Pipeline.ΦD osem spec0 ∅ (V m) c from if_pos h0, PhiD_eq]
    have hr : rowsAt m c t.val = k0_pay5 (iblk m c 0 t) (iblk m c 1 t) := by unfold rowsAt; rw [start_self t h0]
    have hp : projAt m c t = k0_pay7 (grid0.coords t) (k0_pay5 (iblk m c 0 t) (iblk m c 1 t)) (iblk m c 2 t) := by unfold projAt; rw [hr]
    have hg : gateAt m c t = k0_pay6 (iblk m c 0 t) (iblk m c 1 t) (iblk m c 3 t) := by unfold gateAt; rw [start_self t h0]
    rw [hp]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (run_first c (grid0.coords t) _ _ _ _ _ _ _ _ _ _ _ _ _ _ _ _ _ _ _ _ _ _ _ _ _ _ _ _ _ _ _ _ _ _ _ _ _ _ ((isFirst_iff t).mpr h0) (iblk m c 0 t) (iblk m c 1 t) (iblk m c 2 t) (iblk m c 3 t) (iblk m c 4 t) (iblk m c 5 t) (iblk m c 6 t) (iblk m c 7 t) (iblk m c 8 t) (iblk m c 9 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS]; · iexact HS
    iintro ⟨H0, H1, H2, H3, H4, H5, H6, H7, H8, H9, H10, H11, H12, H13, H14, H15, H16, H17, HS⟩
    isplitl [HS Hr]
    · iapply (Inside_next m c t.val)
      unfold Inside
      rw [hr]
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves_11 m c t); rw [hg]; iexact H11
    isplitl [H12]; · iexact H12
    isplitl [H13]; · iexact H13
    isplitl [H14]; · iexact H14
    isplitl [H15]; · iexact H15
    isplitl [H16]; · iexact H16
    iexact H17
  · rw [show Between m c t.val = Inside m c t.val from if_neg h0]
    simp only [before_11 m c (t.val % 8 - 1) t (by omega)]
    conv => { lhs; unfold Inside }
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (run_later c (grid0.coords t) _ _ _ _ _ _ _ _ _ _ _ _ _ _ _ _ _ _ _ _ _ _ _ _ _ _ _ _ _ _ _ _ _ _ _ _ _ _ (fun h => h0 ((isFirst_iff t).mp h)) (iblk m c 2 t) (iblk m c 4 t) (iblk m c 5 t) (iblk m c 6 t) (iblk m c 7 t) (iblk m c 8 t) (iblk m c 9 t) (rowsAt m c t.val) _)
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [HS]; · iexact HS
    isplitl [H10]; · iexists _; iexact H10
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iintro ⟨H2, H4, H5, H6, H7, H8, H9, HS, H10, H12, H13, H14, H15, H16, H17⟩
    isplitl [HS Hr]
    · iapply (Inside_next m c t.val)
      unfold Inside
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves_11 m c t); iexact H11
    isplitl [H12]; · iexact H12
    isplitl [H13]; · iexact H13
    isplitl [H14]; · iexact H14
    isplitl [H15]; · iexact H15
    isplitl [H16]; · iexact H16
    iexact H17

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem Between_zero (c : Dev nD) : Pipeline.ΦD osem spec0 ∅ (V m) c = (dats m 0 c).Φ 0 := by
  dsimp only [dats]; exact (if_pos (Nat.zero_mod _)).symm
theorem Between_last (c : Dev nD) : (dats m 0 c).Φ (Fin.last cfg0.N) = Pipeline.ΦD osem spec0 ∅ (V m) c := by
  dsimp only [dats]; exact if_pos (by rw [Fin.val_last, show cfg0.N = 128 from N_0])

set_option backward.isDefEq.respectTransparency.types false in
/-- Every fair run ends, with every array of the pipeline at what the proof data say, every other array as launched, and
    every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts ∅ (Finset.empty_subset _) m ρ main
    (hbody := fun c => (body_obligation m c).loose) (hshare := fun c => (dats m 0 c).share_full fun _ => rfl)
    (howed := fun _ _ => rfl) (V := V m) (hmain := hmain m Variants.none) (hA := A_eq m)
    (hin := fun c => by rw [Between_zero]) (hout := fun c => by rw [Between_last])

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9))⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.InIdeal.Body

end
-- ==== Proof.InFrame.lean ====
/-
  The frame of the input projection as it is printed. Its idealization differs in one literal, which has a name there. With
  the name read as the literal's own word it is the same program, word for word, and the frame of `InIdeal/Frame.lean`,
  proved over any arithmetic and any reading of the name, is its frame too.
-/
module

public import proofs.«01_k».proof.Defs
public import proofs.«01_k».proof.Proof.Gen.In
public import proofs.«01_k».proof.Proof.InIdeal.Frame

@[expose] public section

set_option maxHeartbeats 4000000

noncomputable section

namespace Cert.InFrame

open Idealize.ShloMosaic Idealize.ShloMosaic.TcCoe Idealize.SL.Sem

/-- Over words, a name stands for the word it was given to. -/
instance : Named Bits where
  named _ _ _ b := FloatOps.ofBits _ b

/-- The two body tables are one: the one label's body is the same program. -/
theorem bodies : In.defs₀ (F := Bits) = InIdeal.defs₀ (F := Bits) := by
  unfold In.defs₀ InIdeal.defs₀
  refine congrArg (Defs.onTc (nD := 1) (sig := InIdeal.sig) (Λ := InIdeal.Λ₀)) ?_
  funext l x
  match l, x with
  | 0, (t, s) => rfl

theorem defs_eq : In.defs (F := Bits) = InIdeal.defs (F := Bits) :=
  congrArg (Pipeline.defs (InIdeal.pcfgs (F := Bits))) bodies

theorem frame : Cert.quiescent_In := fun m ρ _ => by
  have h := InIdeal.Body.frame (F := Bits) m ρ
  rw [← defs_eq] at h
  exact h

end Cert.InFrame

end
-- ==== Proof.InMath.lean ====
/-
  The mathematics of the input projection, as functions of its arguments: both programs are shown to compute these. The six
  weight arrays the call also copies to the narrow type are, over the extended reals, the same arrays, so they need nothing.
-/
module

public import Idealize.ShloMosaic.Lib.Pointwise

@[expose] public section

noncomputable section

namespace Cert.InMath

open Idealize.ShloMosaic

/-- The arguments the two products read, as arrays of extended reals. -/
structure Args where
  x : (⟨2, ![16384, 2048]⟩ : Shape).Idx → EReal
  g : (⟨2, ![1, 2048]⟩ : Shape).Idx → EReal
  wt : (⟨2, ![16384, 2048]⟩ : Shape).Idx → EReal
  wg : (⟨2, ![2048, 256]⟩ : Shape).Idx → EReal

variable (a : Args)

/-- One row's entry `e` after the root-mean-square norm with gain `g`. -/
def normed (x : Fin 2048 → EReal) (g : EReal) (e : Fin 2048) : EReal :=
  x e * Ideal.rsqrt (Ideal.div (∑ k : Fin 2048, x k * x k) (Ideal.ofBits .f32 0x45000000#32) + Ideal.ofBits .f32 0x358637BD#32) * g

/-- The normalised input. -/
def h (R : Fin 16384) (e : Fin 2048) : EReal := normed (fun k => a.x (ix2 R k)) (a.g (ix2 0 e)) e

/-- The product of a row with a row of the transposed main weight. -/
def dot (R C : Fin 16384) : EReal := ∑ k : Fin 2048, h a R k * a.wt (ix2 C k)

/-- The scale of the queries, the inverse root of a head's 128 columns. -/
def scale : EReal := (((Real.sqrt 128)⁻¹ : ℝ) : EReal)

/-- The projection: its first 1024 columns, the queries, are scaled. -/
def proj (R C : Fin 16384) : EReal := if C.val < 1024 then dot a R C * scale else dot a R C

/-- The gates. -/
def gates (R : Fin 16384) (c : Fin 256) : EReal := ∑ k : Fin 2048, h a R k * a.wg (ix2 k c)

end Cert.InMath

end
-- ==== Proof.InBlock.lean ====
/-
  The input projection's stored expressions, read at an index.
-/
module

public import proofs.«01_k».proof.Proof.InIdeal.Frame
public import proofs.«01_k».proof.Proof.InMath
public import Idealize.ShloMosaic.PureOps.IdealRules

@[expose] public section

set_option maxRecDepth 16384

noncomputable section

namespace Cert.InIdeal.Body

open Idealize.ShloMosaic Idealize.ShloMosaic.TcCoe Idealize.ShloMosaic.Tactic
open Cert.InIdeal.Gen

/-- The normalised rows of a block. -/
theorem pay_rows (x : FVec Ideal S1024x2048 .f32) (g : FVec Ideal S1x2048 .f32) (r : Fin 1024) (e : Fin 2048) :
    k0_pay4 (F := Ideal) x g (ix2 r e) = InMath.normed (fun k => x (ix2 r k)) (g (ix2 0 e)) e := by
  unfold InMath.normed
  pointwise [k0_pay4]

/-- The same, as the scratch buffer is given them. -/
theorem pay_scratch (x : FVec Ideal S1024x2048 .f32) (g : FVec Ideal S1x2048 .f32) (r : Fin 1024) (e : Fin 2048) :
    k0_pay5 (F := Ideal) x g (ix2 r e) = InMath.normed (fun k => x (ix2 r k)) (g (ix2 0 e)) e := by
  unfold InMath.normed
  pointwise [k0_pay5, k0_pay4]

/-- The gates of a block. -/
theorem pay_gates (x : FVec Ideal S1024x2048 .f32) (g : FVec Ideal S1x2048 .f32) (w : FVec Ideal S2048x256 .bf16)
    (r : Fin 1024) (c : Fin 256) :
    k0_pay6 (F := Ideal) x g w (ix2 r c) = ∑ k : Fin 2048, InMath.normed (fun k => x (ix2 r k)) (g (ix2 0 k)) k * w (ix2 k c) := by
  unfold InMath.normed
  pointwise [k0_pay6, k0_pay4]

/-- Whether column `l` of the `j`-th block of 2048 is one of the first 1024, in words. -/
theorem word_lt (j : Fin 8) (l : Fin 2048) :
    IntOp.cmpi .slt (BitVec.ofNat 32 j.val * 2048#32 + BitVec.ofNat 32 l.val) 1024#32
      = if 2048 * j.val + l.val < 1024 then 1#1 else 0#1 := by
  have hj := j.isLt
  have hl := l.isLt
  have hn : (BitVec.ofNat 32 j.val * 2048#32 + BitVec.ofNat 32 l.val).toNat = 2048 * j.val + l.val := by
    rw [BitVec.toNat_add, BitVec.toNat_mul, BitVec.toNat_ofNat, BitVec.toNat_ofNat, BitVec.toNat_ofNat]
    omega
  have hi : (BitVec.ofNat 32 j.val * 2048#32 + BitVec.ofNat 32 l.val).toInt = 2048 * j.val + l.val := by
    rw [BitVec.toInt_eq_toNat_cond, hn, if_pos (by omega)]; rfl
  show BitVec.ofBool (BitVec.slt (BitVec.ofNat 32 j.val * 2048#32 + BitVec.ofNat 32 l.val) 1024#32) = _
  by_cases h : 2048 * j.val + l.val < 1024
  · rw [if_pos h, BitVec.slt_iff_toInt_lt.mpr (by rw [hi]; show _ < (1024 : ℤ); omega)]; rfl
  · have e : BitVec.slt (BitVec.ofNat 32 j.val * 2048#32 + BitVec.ofNat 32 l.val) 1024#32 = false := by
      refine Bool.eq_false_iff.mpr fun e => h ?_
      have e' : _ < (1024 : ℤ) := BitVec.slt_iff_toInt_lt.mp e
      rw [hi] at e'
      omega
    rw [if_neg h, e]; rfl

/-- The kernel's literal, by the name it has, is the scale. -/
theorem named_scale : Named.named (F := Ideal) κ "q_scale" (φ := .f32) 0x3DB504F3#32 = InMath.scale :=
  IdealRules.named_const.ideal_named_scalar _ _ _ _ rfl

/-- The projection of a block: the columns of the queries are scaled, the others multiplied by one. -/
theorem pay_proj (i : grid0.Coords) (x : FVec Ideal S1024x2048 .bf16) (w : FVec Ideal S2048x2048 .bf16) (r : Fin 1024) (l : Fin 2048) :
    k0_pay7 (F := Ideal) i x w (ix2 r l)
      = if 2048 * (i 1).val + l.val < 1024 then (∑ k : Fin 2048, x (ix2 r k) * w (ix2 l k)) * InMath.scale
        else ∑ k : Fin 2048, x (ix2 r k) * w (ix2 l k) := by
  pointwise [k0_pay7]
  have e := word_lt (i 1) l
  refine (congrArg (fun b => _ * Scalar.select b _ 1) e).trans ?_
  by_cases h : 2048 * (i 1).val + l.val < 1024
  · rw [if_pos h, if_pos h]; exact congrArg (_ * ·) named_scale
  · rw [if_neg h, if_neg h]; exact mul_one _

end Cert.InIdeal.Body

end
-- ==== Proof.InArray.lean ====
/-
  The arrays the input projection leaves: the projection, the gates, and the six weights in the narrow type.
-/
module

public import proofs.«01_k».proof.Proof.InBlock

@[expose] public section

set_option maxRecDepth 16384

noncomputable section

namespace Cert.InIdeal.Body

open Idealize.ShloMosaic Idealize.ShloMosaic.TcCoe Idealize.ShloMosaic.Tactic
open Idealize.SL.Sem
open Idealize.ShloMosaic.Pipeline (Dat Cfg Window)
open Cert.InIdeal.Gen

variable (m : (ℓ : Loc nD τ sig) → Buf (Elt Ideal) ℓ)

/-- The argument arrays of device `c`. -/
def args (c : Dev nD) : InMath.Args where
  x := m ((c : Thread nD τ).loc main_arg0)
  g := m ((c : Thread nD τ).loc main_arg1)
  wt := m ((c : Thread nD τ).loc main_arg2)
  wg := m ((c : Thread nD τ).loc main_arg3)

theorem lt128 (t : Fin cfg0.N) : t.val < 128 := by have := t.isLt; have h : cfg0.N = 128 := N_0; omega

/-- Row `r` of point `n`'s block of rows. -/
def row (n : ℕ) (r : Fin 1024) : Fin 16384 := ⟨(1024 * (n / 8) + r.val) % 16384, Nat.mod_lt _ (by decide)⟩

/-- Column `l` of point `n`'s block of columns. -/
def col (n : ℕ) (l : Fin 2048) : Fin 16384 := ⟨(2048 * (n % 8) + l.val) % 16384, Nat.mod_lt _ (by decide)⟩

/-! ## Where the blocks lie -/

theorem coord1 : ∀ t : Fin cfg0.N, (grid0.coords t 1).val = t.val % 8 :=
  (by decide +kernel : ∀ t : Fin grid0.N, (grid0.coords t 1).val = t.val % 8)
theorem idx0 : ∀ t : Fin cfg0.N, t.val % 8 = 0 → win0_0.index t 0 = t.val / 8 ∧ win0_0.index t 1 = 0 :=
  (by decide +kernel : ∀ t : Fin grid0.N, t.val % 8 = 0 → win0_0.index t 0 = t.val / 8 ∧ win0_0.index t 1 = 0)
theorem idx2 : ∀ t : Fin cfg0.N, win0_2.index t 0 = t.val % 8 ∧ win0_2.index t 1 = 0 :=
  (by decide +kernel : ∀ t : Fin grid0.N, win0_2.index t 0 = t.val % 8 ∧ win0_2.index t 1 = 0)
theorem idx10 : ∀ t : Fin cfg0.N, win0_10.index t 0 = t.val / 8 ∧ win0_10.index t 1 = t.val % 8 :=
  (by decide +kernel : ∀ t : Fin grid0.N, win0_10.index t 0 = t.val / 8 ∧ win0_10.index t 1 = t.val % 8)
theorem idx11 : ∀ t : Fin cfg0.N, win0_11.index t 0 = t.val / 8 ∧ win0_11.index t 1 = 0 :=
  (by decide +kernel : ∀ t : Fin grid0.N, win0_11.index t 0 = t.val / 8 ∧ win0_11.index t 1 = 0)

/-! ## The blocks, read at an index -/

theorem blk0 (c : Dev nD) (t : Fin cfg0.N) (h : t.val % 8 = 0) (r : Fin 1024) (k : Fin 2048) :
    iblk m c 0 t (ix2 r k) = (args m c).x (ix2 (row t.val r) k) := by
  have e := idx0 t h
  have ht := lt128 t
  refine congrArg (args m c).x (funext fun a => Fin.ext ?_)
  match a with
  | ⟨0, _⟩ => show win0_0.index t 0 * 1024 + 1 * r.val = (1024 * (t.val / 8) + r.val) % 16384; rw [e.1]; omega
  | ⟨1, _⟩ => show win0_0.index t 1 * 2048 + 1 * k.val = k.val; rw [e.2]; omega

theorem blk1 (c : Dev nD) (t : Fin cfg0.N) (j : Fin 1) (d : Fin 2048) : iblk m c 1 t (ix2 j d) = (args m c).g (ix2 j d) :=
  congrArg (args m c).g (funext fun a => Fin.ext (by match a with
    | ⟨0, _⟩ => show 0 * 1 + 1 * j.val = j.val; omega
    | ⟨1, _⟩ => show 0 * 2048 + 1 * d.val = d.val; omega))

theorem blk2 (c : Dev nD) (t : Fin cfg0.N) (l k : Fin 2048) : iblk m c 2 t (ix2 l k) = (args m c).wt (ix2 (col t.val l) k) := by
  have e := idx2 t
  refine congrArg (args m c).wt (funext fun a => Fin.ext ?_)
  match a with
  | ⟨0, _⟩ => show win0_2.index t 0 * 2048 + 1 * l.val = (2048 * (t.val % 8) + l.val) % 16384; rw [e.1]; omega
  | ⟨1, _⟩ => show win0_2.index t 1 * 2048 + 1 * k.val = k.val; rw [e.2]; omega

theorem blk3 (c : Dev nD) (t : Fin cfg0.N) (k : Fin 2048) (q : Fin 256) : iblk m c 3 t (ix2 k q) = (args m c).wg (ix2 k q) :=
  congrArg (args m c).wg (funext fun a => Fin.ext (by match a with
    | ⟨0, _⟩ => show 0 * 2048 + 1 * k.val = k.val; omega
    | ⟨1, _⟩ => show 0 * 256 + 1 * q.val = q.val; omega))

/-! ## The projection and the gates of a point -/

theorem start_mod (n : ℕ) : (start n).val % 8 = 0 := by show n / 8 % 16 * 8 % 8 = 0; omega

theorem row_start (t : Fin cfg0.N) (r : Fin 1024) : row (start t.val).val r = row t.val r :=
  Fin.ext (by
    have ht := lt128 t
    show (1024 * (t.val / 8 % 16 * 8 / 8) + r.val) % 16384 = (1024 * (t.val / 8) + r.val) % 16384
    omega)

/-- The normalised rows a point works on are those of its row block. -/
theorem normed_eq (c : Dev nD) (t : Fin cfg0.N) (r : Fin 1024) (e : Fin 2048) (x : FVec Ideal S1024x2048 .f32) (g : FVec Ideal S1x2048 .f32)
    (hx : x = iblk m c 0 (start t.val)) (hg : g = iblk m c 1 (start t.val)) :
    InMath.normed (fun k => x (ix2 r k)) (g (ix2 0 e)) e = InMath.h (args m c) (row t.val r) e := by
  have ex : (fun k => x (ix2 r k)) = fun k => (args m c).x (ix2 (row t.val r) k) := funext fun k => by
    rw [hx, ← row_start t r]; exact blk0 m c _ (start_mod _) r k
  have eg : g (ix2 0 e) = (args m c).g (ix2 0 e) := by rw [hg]; exact blk1 m c _ 0 e
  rw [ex, eg]
  rfl

/-- A product of a block's row is the arrays'. -/
theorem dot_congr (x y x' y' : Fin 2048 → EReal) (hx : ∀ k, x k = x' k) (hy : ∀ k, y k = y' k) :
    ∑ k : Fin 2048, x k * y k = ∑ k : Fin 2048, x' k * y' k :=
  Finset.sum_congr rfl fun k _ => congrArg₂ (fun a b : EReal => a * b) (hx k) (hy k)

theorem proj_eq (c : Dev nD) (t : Fin cfg0.N) (r : Fin 1024) (l : Fin 2048) :
    projAt m c t (ix2 r l) = InMath.proj (args m c) (row t.val r) (col t.val l) := by
  unfold projAt rowsAt
  refine (pay_proj (grid0.coords t) _ _ r l).trans ?_
  have hd := dot_congr _ _ _ _
    (fun k => (pay_scratch (iblk m c 0 (start t.val)) (iblk m c 1 (start t.val)) r k).trans (normed_eq m c t r k _ _ rfl rfl))
    (fun k => blk2 m c t l k)
  have hc : (col t.val l).val = 2048 * (grid0.coords t 1).val + l.val := by
    rw [coord1]; show (2048 * (t.val % 8) + l.val) % 16384 = _; omega
  unfold InMath.proj InMath.dot
  rw [hc]
  split
  · exact congrArg (· * _) hd
  · exact hd

theorem gate_eq (c : Dev nD) (t : Fin cfg0.N) (r : Fin 1024) (q : Fin 256) :
    gateAt m c t (ix2 r q) = InMath.gates (args m c) (row t.val r) q := by
  unfold gateAt
  refine (pay_gates _ _ _ r q).trans ?_
  exact dot_congr _ _ _ _ (fun k => normed_eq m c t r k _ _ rfl rfl) (fun k => blk3 m c _ k q)

/-! ## Their arrays -/

/-- The projection of device `c`. -/
def G10 (c : Dev nD) : Buf (Elt Ideal) ((c : Thread nD τ).loc main_v0_0) :=
  fun (i : S16384x16384.Idx) => InMath.proj (args m c) (i 0) (i 1)
/-- The gates of device `c`. -/
def G11 (c : Dev nD) : Buf (Elt Ideal) ((c : Thread nD τ).loc main_v0_1) :=
  fun (i : S16384x256.Idx) => InMath.gates (args m c) (i 0) (i 1)

theorem flushed10 (c : Dev nD) (t : Fin cfg0.N) :
    (dats m 0 c).flushed 10 t = ((cfg0.win 10).blk t).view.read (Elt Ideal) (G10 m c) := by
  have ht := lt128 t
  show (dats m 0 c).after 10 t = _
  rw [after_10]
  funext y
  obtain ⟨r, l, rfl⟩ : ∃ (r : Fin 1024) (l : Fin 2048), y = ix2 r l := ⟨y 0, y 1, by funext a; match a with | ⟨0, _⟩ => rfl | ⟨1, _⟩ => rfl⟩
  have e := idx10 t
  refine (proj_eq m c t r l).trans ?_
  show _ = InMath.proj (args m c) _ _
  congr 1
  · exact Fin.ext (by show (1024 * (t.val / 8) + r.val) % 16384 = win0_10.index t 0 * 1024 + 1 * r.val; rw [e.1]; omega)
  · exact Fin.ext (by show (2048 * (t.val % 8) + l.val) % 16384 = win0_10.index t 1 * 2048 + 1 * l.val; rw [e.2]; omega)

theorem flushed11 (c : Dev nD) (t : Fin cfg0.N) :
    (dats m 0 c).flushed 11 t = ((cfg0.win 11).blk t).view.read (Elt Ideal) (G11 m c) := by
  have ht := lt128 t
  show (dats m 0 c).after 11 t = _
  rw [after_11]
  funext y
  obtain ⟨r, q, rfl⟩ : ∃ (r : Fin 1024) (q : Fin 256), y = ix2 r q := ⟨y 0, y 1, by funext a; match a with | ⟨0, _⟩ => rfl | ⟨1, _⟩ => rfl⟩
  have e := idx11 t
  refine (gate_eq m c t r q).trans ?_
  show _ = InMath.gates (args m c) _ _
  congr 1
  · exact Fin.ext (by show (1024 * (t.val / 8) + r.val) % 16384 = win0_11.index t 0 * 1024 + 1 * r.val; rw [e.1]; omega)
  · exact Fin.ext (by show q.val = win0_11.index t 1 * 256 + 1 * q.val; rw [e.2]; omega)

/-- An index is in point `t`'s block of the projection when its row and its column are. -/
theorem mem10 (t : Fin cfg0.N) (i : S16384x16384.Idx) (h0 : (i 0 : ℕ) / 1024 = t.val / 8) (h1 : (i 1 : ℕ) / 2048 = t.val % 8) :
    i ∈ ((cfg0.win 10).blk t).view.set := by
  show i ∈ ((View.whole main_v0_0).slice (win0_10.rect t)).set
  rw [View.set_slice_whole, Rect.mem_set_unit]
  have e := idx10 t
  intro a
  match a with
  | ⟨0, _⟩ => show win0_10.index t 0 * 1024 ≤ (i 0 : ℕ) ∧ (i 0 : ℕ) < win0_10.index t 0 * 1024 + 1024; rw [e.1]; omega
  | ⟨1, _⟩ => show win0_10.index t 1 * 2048 ≤ (i 1 : ℕ) ∧ (i 1 : ℕ) < win0_10.index t 1 * 2048 + 2048; rw [e.2]; omega

theorem cover10 (i : S16384x16384.Idx) : ∃ t : Fin cfg0.N, (cfg0.win 10).flush t = true ∧ i ∈ ((cfg0.win 10).blk t).view.set := by
  have h0 : (i 0 : ℕ) < 16384 := (i 0).isLt
  have h1 : (i 1 : ℕ) < 16384 := (i 1).isLt
  have hN : cfg0.N = 128 := N_0
  refine ⟨⟨8 * ((i 0 : ℕ) / 1024) + (i 1 : ℕ) / 2048, by omega⟩, flush0_10 _, mem10 _ i ?_ ?_⟩
  · dsimp only; omega
  · dsimp only; omega

theorem mem11 (t : Fin cfg0.N) (i : S16384x256.Idx) (h0 : (i 0 : ℕ) / 1024 = t.val / 8) :
    i ∈ ((cfg0.win 11).blk t).view.set := by
  show i ∈ ((View.whole main_v0_1).slice (win0_11.rect t)).set
  rw [View.set_slice_whole, Rect.mem_set_unit]
  have h1 : (i 1 : ℕ) < 256 := (i 1).isLt
  have e := idx11 t
  intro a
  match a with
  | ⟨0, _⟩ => show win0_11.index t 0 * 1024 ≤ (i 0 : ℕ) ∧ (i 0 : ℕ) < win0_11.index t 0 * 1024 + 1024; rw [e.1]; omega
  | ⟨1, _⟩ => show win0_11.index t 1 * 256 ≤ (i 1 : ℕ) ∧ (i 1 : ℕ) < win0_11.index t 1 * 256 + 256; rw [e.2]; omega

theorem cover11 (i : S16384x256.Idx) : ∃ t : Fin cfg0.N, (cfg0.win 11).flush t = true ∧ i ∈ ((cfg0.win 11).blk t).view.set := by
  have h0 : (i 0 : ℕ) < 16384 := (i 0).isLt
  have hN : cfg0.N = 128 := N_0
  refine ⟨⟨8 * ((i 0 : ℕ) / 1024) + 7, by omega⟩, (flush0_11 _).2 ?_, mem11 _ i ?_⟩
  · dsimp only; omega
  · dsimp only; omega

theorem final10 (c : Dev nD) : (dats m 0 c).arrAt 10 cfg0.N = G10 m c :=
  (dats m 0 c).arrAt_eq_of_cover 10 (G10 m c) (fun t _ => flushed10 m c t) cover10
theorem final11 (c : Dev nD) : (dats m 0 c).arrAt 11 cfg0.N = G11 m c :=
  (dats m 0 c).arrAt_eq_of_cover 11 (G11 m c) (fun t _ => flushed11 m c t) cover11

end Cert.InIdeal.Body

end
-- ==== Proof.InSide.lean ====
/-
  The six weights the input projection copies to the narrow type beside its own work: over the extended reals each copy
  is the array itself. Point `t` copies the `t`-th of 128 runs of rows of five of them, and of the sixth the `t`-th of 88,
  repeating the last.
-/
module

public import proofs.«01_k».proof.Proof.InIdeal.Frame

@[expose] public section

set_option maxRecDepth 16384

noncomputable section

namespace Cert.InIdeal.Body

open Idealize.ShloMosaic Idealize.ShloMosaic.TcCoe Idealize.ShloMosaic.Tactic
open Idealize.SL.Sem
open Idealize.ShloMosaic.Pipeline (Dat Cfg Window)
open Cert.InIdeal.Gen

variable (m : (ℓ : Loc nD τ sig) → Buf (Elt Ideal) ℓ)

theorem idx12 : ∀ t : Fin cfg0.N, win0_12.index t 0 = t.val ∧ win0_12.index t 1 = 0 :=
  (by decide +kernel : ∀ t : Fin grid0.N, win0_12.index t 0 = t.val ∧ win0_12.index t 1 = 0)
theorem idx17 : ∀ t : Fin cfg0.N, win0_17.index t 0 = min t.val 87 ∧ win0_17.index t 1 = 0 :=
  (by decide +kernel : ∀ t : Fin grid0.N, win0_17.index t 0 = min t.val 87 ∧ win0_17.index t 1 = 0)
/-- The sixth copy's blocks are all written back: the last one at the last point. -/
theorem flush17 : ∀ t : Fin cfg0.N, t.val < 87 ∨ t.val = 127 → (cfg0.win 17).flush t = true :=
  (by decide +kernel : ∀ t : Fin grid0.N, t.val < 87 ∨ t.val = 127 → win0_17.flush t = true)

/-- The copies of device `c`. -/
def G12 (c : Dev nD) : Buf (Elt Ideal) ((c : Thread nD τ).loc main_v0_2) := m ((c : Thread nD τ).loc main_arg4)
def G13 (c : Dev nD) : Buf (Elt Ideal) ((c : Thread nD τ).loc main_v0_3) := m ((c : Thread nD τ).loc main_arg5)
def G14 (c : Dev nD) : Buf (Elt Ideal) ((c : Thread nD τ).loc main_v0_4) := m ((c : Thread nD τ).loc main_arg6)
def G15 (c : Dev nD) : Buf (Elt Ideal) ((c : Thread nD τ).loc main_v0_5) := m ((c : Thread nD τ).loc main_arg7)
def G16 (c : Dev nD) : Buf (Elt Ideal) ((c : Thread nD τ).loc main_v0_6) := m ((c : Thread nD τ).loc main_arg8)
def G17 (c : Dev nD) : Buf (Elt Ideal) ((c : Thread nD τ).loc main_v0_7) := m ((c : Thread nD τ).loc main_arg9)

/-! ## A copied block is the argument's block -/

theorem flushed12 (c : Dev nD) (t : Fin cfg0.N) : (dats m 0 c).flushed 12 t = ((cfg0.win 12).blk t).view.read (Elt Ideal) (G12 m c) := by
  show (dats m 0 c).after 12 t = _; rw [after_12]; rfl
theorem flushed13 (c : Dev nD) (t : Fin cfg0.N) : (dats m 0 c).flushed 13 t = ((cfg0.win 13).blk t).view.read (Elt Ideal) (G13 m c) := by
  show (dats m 0 c).after 13 t = _; rw [after_13]; rfl
theorem flushed14 (c : Dev nD) (t : Fin cfg0.N) : (dats m 0 c).flushed 14 t = ((cfg0.win 14).blk t).view.read (Elt Ideal) (G14 m c) := by
  show (dats m 0 c).after 14 t = _; rw [after_14]; rfl
theorem flushed15 (c : Dev nD) (t : Fin cfg0.N) : (dats m 0 c).flushed 15 t = ((cfg0.win 15).blk t).view.read (Elt Ideal) (G15 m c) := by
  show (dats m 0 c).after 15 t = _; rw [after_15]; rfl
theorem flushed16 (c : Dev nD) (t : Fin cfg0.N) : (dats m 0 c).flushed 16 t = ((cfg0.win 16).blk t).view.read (Elt Ideal) (G16 m c) := by
  show (dats m 0 c).after 16 t = _; rw [after_16]; rfl
theorem flushed17 (c : Dev nD) (t : Fin cfg0.N) : (dats m 0 c).flushed 17 t = ((cfg0.win 17).blk t).view.read (Elt Ideal) (G17 m c) := by
  show (dats m 0 c).after 17 t = _; rw [after_17]; rfl

/-! ## The blocks cover the arrays -/

/-- The run of 16 rows an index lies in, as a point. -/
def runOf (n : Fin 2048) : Fin cfg0.N := ⟨n.val / 16, Nat.lt_of_lt_of_eq (by omega) N_0.symm⟩
/-- The run of 64 rows an index lies in, as the point that writes it back. -/
def runOf64 (n : Fin 5632) : Fin cfg0.N :=
  ⟨if n.val / 64 < 87 then n.val / 64 else 127, Nat.lt_of_lt_of_eq (by split <;> omega) N_0.symm⟩

/-- An index of an array of 2048 columns is in its run's block, -/
theorem in_run (i : S2048x2048.Idx) (a : Fin 2) : win0_12.index (runOf (i 0)) a * S16x2048.size a ≤ (i a : ℕ)
    ∧ (i a : ℕ) < win0_12.index (runOf (i 0)) a * S16x2048.size a + S16x2048.size a := by
  have e := idx12 (runOf (i 0))
  have h1 : (i 1 : ℕ) < 2048 := (i 1).isLt
  match a with
  | ⟨0, _⟩ => show win0_12.index _ 0 * 16 ≤ (i 0 : ℕ) ∧ (i 0 : ℕ) < win0_12.index _ 0 * 16 + 16; rw [e.1]; show (i 0 : ℕ) / 16 * 16 ≤ _ ∧ _ < (i 0 : ℕ) / 16 * 16 + 16; omega
  | ⟨1, _⟩ => show win0_12.index _ 1 * 2048 ≤ (i 1 : ℕ) ∧ (i 1 : ℕ) < win0_12.index _ 1 * 2048 + 2048; rw [e.2]; omega
/-- so is one of an array of 5632 columns, whose blocks lie alike, -/
theorem in_run_wide (i : S2048x5632.Idx) (a : Fin 2) : win0_15.index (runOf (i 0)) a * S16x5632.size a ≤ (i a : ℕ)
    ∧ (i a : ℕ) < win0_15.index (runOf (i 0)) a * S16x5632.size a + S16x5632.size a := by
  have e : win0_15.index (runOf (i 0)) 0 = (runOf (i 0)).val ∧ win0_15.index (runOf (i 0)) 1 = 0 := idx12 (runOf (i 0))
  have h1 : (i 1 : ℕ) < 5632 := (i 1).isLt
  match a with
  | ⟨0, _⟩ => show win0_15.index _ 0 * 16 ≤ (i 0 : ℕ) ∧ (i 0 : ℕ) < win0_15.index _ 0 * 16 + 16; rw [e.1]; show (i 0 : ℕ) / 16 * 16 ≤ _ ∧ _ < (i 0 : ℕ) / 16 * 16 + 16; omega
  | ⟨1, _⟩ => show win0_15.index _ 1 * 5632 ≤ (i 1 : ℕ) ∧ (i 1 : ℕ) < win0_15.index _ 1 * 5632 + 5632; rw [e.2]; omega
/-- and one of the sixth, in its run of 64 rows. -/
theorem in_run64 (i : S5632x2048.Idx) (a : Fin 2) : win0_17.index (runOf64 (i 0)) a * S64x2048.size a ≤ (i a : ℕ)
    ∧ (i a : ℕ) < win0_17.index (runOf64 (i 0)) a * S64x2048.size a + S64x2048.size a := by
  have e := idx17 (runOf64 (i 0))
  have h0 : (i 0 : ℕ) < 5632 := (i 0).isLt
  have h1 : (i 1 : ℕ) < 2048 := (i 1).isLt
  have hv : min (runOf64 (i 0)).val 87 = (i 0 : ℕ) / 64 := by
    show min (if (i 0 : ℕ) / 64 < 87 then (i 0 : ℕ) / 64 else 127) 87 = _
    split <;> omega
  match a with
  | ⟨0, _⟩ => show win0_17.index _ 0 * 64 ≤ (i 0 : ℕ) ∧ (i 0 : ℕ) < win0_17.index _ 0 * 64 + 64; rw [e.1, hv]; omega
  | ⟨1, _⟩ => show win0_17.index _ 1 * 2048 ≤ (i 1 : ℕ) ∧ (i 1 : ℕ) < win0_17.index _ 1 * 2048 + 2048; rw [e.2]; omega

theorem run64_flush (n : Fin 5632) : (cfg0.win 17).flush (runOf64 n) = true := flush17 _ (by
  show (if n.val / 64 < 87 then n.val / 64 else 127) < 87 ∨ (if n.val / 64 < 87 then n.val / 64 else 127) = 127
  split <;> omega)

/-! ## The arrays -/

theorem final12 (c : Dev nD) : (dats m 0 c).arrAt 12 cfg0.N = G12 m c :=
  (dats m 0 c).arrAt_eq_of_cover 12 (G12 m c) (fun t _ => flushed12 m c t) fun (i : S2048x2048.Idx) => ⟨runOf (i 0), flush0_12 _, by
    show i ∈ ((View.whole main_v0_2).slice (win0_12.rect (runOf (i 0)))).set
    rw [View.set_slice_whole, Rect.mem_set_unit]; exact in_run i⟩
theorem final13 (c : Dev nD) : (dats m 0 c).arrAt 13 cfg0.N = G13 m c :=
  (dats m 0 c).arrAt_eq_of_cover 13 (G13 m c) (fun t _ => flushed13 m c t) fun (i : S2048x2048.Idx) => ⟨runOf (i 0), flush0_13 _, by
    show i ∈ ((View.whole main_v0_3).slice (win0_13.rect (runOf (i 0)))).set
    rw [View.set_slice_whole, Rect.mem_set_unit]; exact in_run i⟩
theorem final14 (c : Dev nD) : (dats m 0 c).arrAt 14 cfg0.N = G14 m c :=
  (dats m 0 c).arrAt_eq_of_cover 14 (G14 m c) (fun t _ => flushed14 m c t) fun (i : S2048x2048.Idx) => ⟨runOf (i 0), flush0_14 _, by
    show i ∈ ((View.whole main_v0_4).slice (win0_14.rect (runOf (i 0)))).set
    rw [View.set_slice_whole, Rect.mem_set_unit]; exact in_run i⟩
theorem final15 (c : Dev nD) : (dats m 0 c).arrAt 15 cfg0.N = G15 m c :=
  (dats m 0 c).arrAt_eq_of_cover 15 (G15 m c) (fun t _ => flushed15 m c t) fun (i : S2048x5632.Idx) => ⟨runOf (i 0), flush0_15 _, by
    show i ∈ ((View.whole main_v0_5).slice (win0_15.rect (runOf (i 0)))).set
    rw [View.set_slice_whole, Rect.mem_set_unit]; exact in_run_wide i⟩
theorem final16 (c : Dev nD) : (dats m 0 c).arrAt 16 cfg0.N = G16 m c :=
  (dats m 0 c).arrAt_eq_of_cover 16 (G16 m c) (fun t _ => flushed16 m c t) fun (i : S2048x5632.Idx) => ⟨runOf (i 0), flush0_16 _, by
    show i ∈ ((View.whole main_v0_6).slice (win0_16.rect (runOf (i 0)))).set
    rw [View.set_slice_whole, Rect.mem_set_unit]; exact in_run_wide i⟩
theorem final17 (c : Dev nD) : (dats m 0 c).arrAt 17 cfg0.N = G17 m c :=
  (dats m 0 c).arrAt_eq_of_cover 17 (G17 m c) (fun t _ => flushed17 m c t) fun (i : S5632x2048.Idx) => ⟨runOf64 (i 0), run64_flush _, by
    show i ∈ ((View.whole main_v0_7).slice (win0_17.rect (runOf64 (i 0)))).set
    rw [View.set_slice_whole, Rect.mem_set_unit]; exact in_run64 i⟩

end Cert.InIdeal.Body

end
-- ==== Proof.InRef.lean ====
/-
  The input projection's reference, its stages read at an index: its results are the mathematics of the call. Position `s`
  of sequence `b` is row `2048 b + s` of the flat arrays.
-/
module

public import proofs.«01_k».proof.Proof.Gen.InRefIdeal.Read
public import proofs.«01_k».proof.Proof.InMath
public import Idealize.ShloMosaic.Lib.KernelVsHost
public import Idealize.ShloMosaic.Lib.IdealHost

@[expose] public section

set_option maxRecDepth 8000

noncomputable section

namespace Cert.InRefIdeal.Stages

open Idealize.ShloMosaic Idealize.ShloMosaic.Ideal
open Idealize.SL.Sem
open Cert.InRefIdeal.Read Cert.InRefIdeal.Gen

/-- Row of position `s` of sequence `b`. -/
def row (b : Fin 8) (s : Fin 2048) : Fin 16384 := ⟨2048 * b.val + s.val, by omega⟩

/-- An index of three coordinates is its coordinates. -/
theorem eq3 {n0 n1 n2 : ℕ} (i : (⟨3, ![n0, n1, n2]⟩ : Shape).Idx) (x : Fin n0) (y : Fin n1) (z : Fin n2)
    (hx : (i 0).val = x.val) (hy : (i 1).val = y.val) (hz : (i 2).val = z.val) : i = ix3 x y z := by
  funext j
  match j with
  | ⟨0, _⟩ => exact Fin.ext hx
  | ⟨1, _⟩ => exact Fin.ext hy
  | ⟨2, _⟩ => exact Fin.ext hz
theorem eq2 {n0 n1 : ℕ} (i : (⟨2, ![n0, n1]⟩ : Shape).Idx) (x : Fin n0) (y : Fin n1)
    (hx : (i 0).val = x.val) (hy : (i 1).val = y.val) : i = ix2 x y := by
  funext j
  match j with
  | ⟨0, _⟩ => exact Fin.ext hx
  | ⟨1, _⟩ => exact Fin.ext hy

variable (a : InMath.Args) (b : Fin 8) (s e : Fin 2048) (C : Fin 16384)

theorem x_at : val_main_v0 (F := Ideal) a.x (ix3 b s e) = a.x (ix2 (row b s) e) := by
  rw [val_main_v0_apply]
  refine congrArg a.x (funext fun i => Fin.ext ?_)
  match i with
  | ⟨0, _⟩ => show ((b.val * 2048 + s.val) * 2048 + e.val) / 2048 = 2048 * b.val + s.val; omega
  | ⟨1, _⟩ => show ((b.val * 2048 + s.val) * 2048 + e.val) % 2048 = e.val; omega

theorem square_at (i : S8x2048.Idx) (hi0 : (i 0).val = b.val) (hi1 : (i 1).val = s.val) :
    val_main_v2 (F := Ideal) a.x i = ∑ d : Fin 2048, a.x (ix2 (row b s) d) * a.x (ix2 (row b s) d) := by
  rw [val_main_v2_apply]
  show Ideal.ofBits .f32 0x00000000#32 + _ = _
  rw [ofBits_zero_f32, zero_add]
  refine Finset.sum_congr rfl fun k _ => ?_
  rw [eq3 (idx_main_v2 i k) b s k hi0 hi1 rfl, val_main_v1_apply, x_at]
  rfl

theorem gain_at : val_main_v13 (F := Ideal) a.g (ix3 b s e) = a.g (ix2 0 e) := by
  rw [val_main_v13_apply, val_main_v12_apply, val_main_v11_apply]
  exact congrArg a.g (eq2 _ _ _ rfl (Nat.mod_eq_of_lt e.isLt))

theorem h_at : val_main_v14 (F := Ideal) a.x a.g (ix3 b s e) = InMath.h a (row b s) e := by
  rw [val_main_v14_apply, val_main_v10_apply, x_at, gain_at, val_main_v9_apply, val_main_v8_apply, val_main_v7_apply,
    val_main_v6_apply, val_main_v5_apply, val_main_v4_apply, val_main_v3_apply, square_at a b s _ rfl rfl]
  rfl

theorem dot_at : val_main_v17 (F := Ideal) a.x a.g a.wt (ix3 b s C) = InMath.dot a (row b s) C := by
  rw [val_main_v17_apply]
  refine Finset.sum_congr rfl fun k _ => ?_
  rw [eq3 (lidx_main_v17 (ix3 b s C) k) b s k rfl rfl rfl, h_at, val_main_v16_apply,
    eq2 (idx_main_v16 (ridx_main_v17 (ix3 b s C) k)) C k rfl rfl]
  rfl

/-- The reference's literal is the real 128, and the inverse root it takes of it is the scale. -/
theorem root_of : Ideal.ofBits .f32 0x43000000#32 = ((128 : ℝ) : EReal) := by
  simp [Ideal.ofBits, Ideal.ieee, -EReal.coe_mul]
  norm_num
theorem scale_root : Ideal.rsqrt (Ideal.ofBits .f32 0x43000000#32) = InMath.scale := by
  rw [root_of, Ideal.rsqrt_coe, if_neg (by norm_num), if_neg (by norm_num), InMath.scale]

/-- The scaled queries. -/
theorem queries_at (q : Fin 1024) :
    val_main_v21 (F := Ideal) a.x a.g a.wt (ix3 b s q) = InMath.dot a (row b s) ⟨q.val, by omega⟩ * InMath.scale := by
  rw [val_main_v21_apply, val_main_v18_apply, eq3 (idx_main_v18 (ix3 b s q)) b s ⟨q.val, by omega⟩ rfl rfl rfl, dot_at,
    val_main_v20_apply, val_main_v19_apply, val_main_cst_2_apply]
  exact congrArg (_ * ·) scale_root

/-- The rest of the projection. -/
theorem rest_at (q : Fin 15360) :
    val_main_v22 (F := Ideal) a.x a.g a.wt (ix3 b s q) = InMath.dot a (row b s) ⟨1024 + q.val, by omega⟩ := by
  rw [val_main_v22_apply, eq3 (idx_main_v22 (ix3 b s q)) b s ⟨1024 + q.val, by omega⟩ rfl rfl rfl, dot_at]

/-- The two side by side. -/
theorem proj_at : val_main_v23 (F := Ideal) a.x a.g a.wt (ix3 b s C) = InMath.proj a (row b s) C := by
  unfold val_main_v23 InMath.proj
  by_cases h : C.val < 1024
  · rw [if_pos h]
    refine (concatenate_pair_apply_left (t := S8x2048x16384) (s₁ := S8x2048x1024) (s₂ := S8x2048x15360) 2 _ _ _ (ix3 b s C) rfl (ix3 b s (⟨C.val, h⟩ : Fin 1024)) ?_).trans
      (queries_at a b s ⟨C.val, h⟩)
    intro j
    match j with
    | ⟨0, _⟩ => rfl
    | ⟨1, _⟩ => rfl
    | ⟨2, _⟩ => rfl
  · rw [if_neg h]
    refine (concatenate_pair_apply_right (t := S8x2048x16384) (s₁ := S8x2048x1024) (s₂ := S8x2048x15360) 2 _ _ _ (ix3 b s C) rfl rfl (ix3 b s (⟨C.val - 1024, by omega⟩ : Fin 15360)) ?_ ?_).trans
      ((rest_at a b s ⟨C.val - 1024, by omega⟩).trans (congrArg (InMath.dot a (row b s)) (Fin.ext (by show 1024 + (C.val - 1024) = C.val; omega))))
    · intro j hj
      match j with
      | ⟨0, _⟩ => rfl
      | ⟨1, _⟩ => rfl
      | ⟨2, _⟩ => exact absurd rfl hj
    · show C.val - 1024 + 1024 = C.val; omega

theorem gates_at (q : Fin 256) : val_main_v25 (F := Ideal) a.x a.g a.wg (ix3 b s q) = InMath.gates a (row b s) q := by
  rw [val_main_v25_apply]
  refine Finset.sum_congr rfl fun k _ => ?_
  rw [eq3 (lidx_main_v25 (ix3 b s q) k) b s k rfl rfl rfl, h_at, eq2 (ridx_main_v25 (ix3 b s q) k) k q rfl rfl]
  rfl

/-- Row `R` is position `R % 2048` of sequence `R / 2048`. -/
theorem row_of (R : Fin 16384) : row ⟨R.val / 2048, by omega⟩ ⟨R.val % 2048, by omega⟩ = R :=
  Fin.ext (by show 2048 * (R.val / 2048) + R.val % 2048 = R.val; omega)

/-- The projection, in the flat layout. -/
theorem v27_at (R : Fin 16384) : val_main_v27 (F := Ideal) a.x a.g a.wt (ix2 R C) = InMath.proj a R C := by
  rw [val_main_v27_apply, eq3 (idx_main_v27 (ix2 R C)) ⟨R.val / 2048, by omega⟩ ⟨R.val % 2048, by omega⟩ C
    (by show (R.val * 16384 + C.val) / 33554432 = R.val / 2048; omega)
    (by show (R.val * 16384 + C.val) / 16384 % 2048 = R.val % 2048; omega)
    (by show (R.val * 16384 + C.val) % 16384 = C.val; omega), val_main_v26_apply, proj_at, row_of]
  rfl

/-- The gates, in the flat layout. -/
theorem v28_at (R : Fin 16384) (q : Fin 256) : val_main_v28 (F := Ideal) a.x a.g a.wg (ix2 R q) = InMath.gates a R q := by
  rw [val_main_v28_apply, eq3 (idx_main_v28 (ix2 R q)) ⟨R.val / 2048, by omega⟩ ⟨R.val % 2048, by omega⟩ q
    (by show (R.val * 256 + q.val) / 524288 = R.val / 2048; omega)
    (by show (R.val * 256 + q.val) / 256 % 2048 = R.val % 2048; omega)
    (by show (R.val * 256 + q.val) % 256 = q.val; omega), gates_at, row_of]

end Cert.InRefIdeal.Stages

end
-- ==== Proof.InClaim.lean ====
/-
  The claims about the input projection: both programs end with the arrays `InMath` gives at their arguments, and with the six
  side weights.
-/
module

public import proofs.«01_k».proof.Defs
public import proofs.«01_k».proof.Proof.InArray
public import proofs.«01_k».proof.Proof.InSide
public import proofs.«01_k».proof.Proof.InRef

@[expose] public section

noncomputable section

namespace Cert.InClaim

open Idealize.ShloMosaic Idealize.ShloMosaic.TcCoe Idealize.SL.Sem

/-- The reference's arguments, as the mathematics takes them. -/
def refArgs (m : (ℓ : Loc InRefIdeal.nD InRefIdeal.τ InRefIdeal.sig) → Buf (Elt Ideal) ℓ) (c : Dev InRefIdeal.nD) : InMath.Args where
  x := m ((c.tc : Thread InRefIdeal.nD InRefIdeal.τ).loc InRefIdeal.main_arg0)
  g := m ((c.tc : Thread InRefIdeal.nD InRefIdeal.τ).loc InRefIdeal.main_arg1)
  wt := m ((c.tc : Thread InRefIdeal.nD InRefIdeal.τ).loc InRefIdeal.main_arg2)
  wg := m ((c.tc : Thread InRefIdeal.nD InRefIdeal.τ).loc InRefIdeal.main_arg3)

theorem ref_proj (a : InMath.Args) : InRefIdeal.Read.val_main_v27 (F := Ideal) a.x a.g a.wt
    = fun i : InRefIdeal.S16384x16384.Idx => InMath.proj a (i 0) (i 1) := by
  funext i
  rw [InRefIdeal.Stages.eq2 i (i 0) (i 1) rfl rfl]
  exact InRefIdeal.Stages.v27_at a (i 1) (i 0)

theorem ref_gates (a : InMath.Args) : InRefIdeal.Read.val_main_v28 (F := Ideal) a.x a.g a.wg
    = fun i : InRefIdeal.S16384x256.Idx => InMath.gates a (i 0) (i 1) := by
  funext i
  rw [InRefIdeal.Stages.eq2 i (i 0) (i 1) rfl rfl]
  exact InRefIdeal.Stages.v28_at a (i 0) (i 1)

/-- The reference's run ends with its arguments unchanged and, having no semaphore, every counter at zero. -/
theorem frame_ref : Cert.quiescent_InRefIdeal := fun m ρ _ =>
  (θ_run InRefIdeal.defs _ _).mono (fun r h => ⟨fun c => (h c).2.2.2.2.2.2.2.2, sem_eq_zero_of_no_sems (by decide) r.2⟩)
    (InRefIdeal.Value.run (F := Ideal) m ρ)

theorem algebraic : Cert.algebraic_InIdeal_InRefIdeal := by
  intro m ρ m' ρ' _ hagree
  have e (c : Dev InIdeal.nD) : refArgs m' c = InIdeal.Body.args m c := by
    obtain ⟨h0, h1, h2, h3, -⟩ := hagree c
    unfold refArgs InIdeal.Body.args
    rw [h0, h1, h2, h3]
  refine ⟨fun c => InIdeal.Body.G10 m c, fun c => InIdeal.Body.G11 m c, fun c => InIdeal.Body.G12 m c, fun c => InIdeal.Body.G13 m c,
    fun c => InIdeal.Body.G14 m c, fun c => InIdeal.Body.G15 m c, fun c => InIdeal.Body.G16 m c, fun c => InIdeal.Body.G17 m c, ?_, ?_⟩
  · exact (θ_run InIdeal.defs _ _).mono
      (fun r h c => ⟨((h.1 c).1 10).trans (InIdeal.Body.final10 m c), ((h.1 c).1 11).trans (InIdeal.Body.final11 m c),
        ((h.1 c).1 12).trans (InIdeal.Body.final12 m c), ((h.1 c).1 13).trans (InIdeal.Body.final13 m c),
        ((h.1 c).1 14).trans (InIdeal.Body.final14 m c), ((h.1 c).1 15).trans (InIdeal.Body.final15 m c),
        ((h.1 c).1 16).trans (InIdeal.Body.final16 m c), ((h.1 c).1 17).trans (InIdeal.Body.final17 m c), h.2 c⟩)
      (θ_run_and (InIdeal.Body.run_main m ρ) (InIdeal.Body.unchanged m ρ))
  · refine (θ_run InRefIdeal.defs _ _).mono (fun r h c => ?_) (InRefIdeal.Value.run (F := Ideal) m' ρ')
    obtain ⟨h26, h27, h28, h29, h30, h31, h32, h33, hargs⟩ := h c
    obtain ⟨-, -, -, -, h4, h5, h6, h7, h8, h9⟩ := hagree c
    refine ⟨(h26.trans (ref_proj (refArgs m' c))).trans (by rw [e c]; rfl), (h27.trans (ref_gates (refArgs m' c))).trans (by rw [e c]; rfl),
      h28.trans ?_, h29.trans ?_, h30.trans ?_, h31.trans ?_, h32.trans ?_, h33.trans ?_, hargs⟩
    · exact h4
    · exact h5
    · exact h6
    · exact h7
    · exact h8
    · exact h9

end Cert.InClaim

end
-- ==== Proof.PrepArray.lean ====
/-
  The weight preparation: the input weight's rows, transposed, are split into the main rows and the sixteen rows of the gates.
  Each grid point does 128 of the columns, in two stores for the main rows and one for the gates'.
-/
module

public import proofs.«01_k».proof.Proof.Gen.PrepIdeal.Value
public import Idealize.ShloMosaic.Lib.Pointwise

@[expose] public section

set_option maxRecDepth 16384

noncomputable section

namespace Cert.PrepIdeal.Body

open Idealize.ShloMosaic Idealize.ShloMosaic.TcCoe Idealize.ShloMosaic.Tactic
open Idealize.SL.Sem
open Idealize.ShloMosaic.Pipeline (Dat Cfg Window)
open Cert.PrepIdeal.Gen

/-- The row of the weight that main row `R` is: the gates' sixteen, from row 6144 on, are left out. -/
def kept (R : Fin 16384) : Fin 16400 := ⟨if R.val < 6144 then R.val else R.val + 16, by split <;> omega⟩
/-- The row of the weight that row `g` of the gates is. -/
def gate (g : Fin 16) : Fin 16400 := ⟨6144 + g.val, by omega⟩

/-- The main rows of a weight, and its gates' rows. -/
def main_of (w : (⟨2, ![16400, 2048]⟩ : Shape).Idx → EReal) (R : Fin 16384) (C : Fin 2048) : EReal := w (ix2 (kept R) C)
def gate_of (w : (⟨2, ![16400, 2048]⟩ : Shape).Idx → EReal) (g : Fin 16) (C : Fin 2048) : EReal := w (ix2 (gate g) C)

variable (m : (ℓ : Loc nD τ sig) → Buf (Elt Ideal) ℓ)

/-- The weight of device `c`. -/
def weight (c : Dev nD) : (⟨2, ![16400, 2048]⟩ : Shape).Idx → EReal := m ((c : Thread nD τ).loc main_arg0)

theorem lt16 (t : Fin cfg0.N) : t.val < 16 := by have := t.isLt; have h : cfg0.N = 16 := N_0; omega

/-- Column `l` of point `t`'s block. -/
def col (t : Fin cfg0.N) (l : Fin 128) : Fin 2048 := ⟨128 * t.val + l.val, by have := lt16 t; omega⟩

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = t.val :=
  (by decide +kernel : ∀ t : Fin grid0.N, win0_2.index t 0 = 0 ∧ win0_2.index t 1 = t.val)

theorem blk (c : Dev nD) (t : Fin cfg0.N) (r : Fin 16400) (l : Fin 128) : iblk m c 0 t (ix2 r l) = weight m c (ix2 r (col t l)) := by
  have e := idx0 t
  refine congrArg (weight m c) (funext fun a => Fin.ext ?_)
  match a with
  | ⟨0, _⟩ => show win0_0.index t 0 * 16400 + 1 * r.val = r.val; rw [e.1]; omega
  | ⟨1, _⟩ => show win0_0.index t 1 * 128 + 1 * l.val = 128 * t.val + l.val; rw [e.2]; omega

/-- An index of a block of two coordinates. -/
theorem eq2 {n0 n1 : ℕ} (i : (⟨2, ![n0, n1]⟩ : Shape).Idx) (x : Fin n0) (y : Fin n1)
    (hx : (i 0).val = x.val) (hy : (i 1).val = y.val) : i = ix2 x y := by
  funext j
  match j with
  | ⟨0, _⟩ => exact Fin.ext hx
  | ⟨1, _⟩ => exact Fin.ext hy

/-- What point `t` leaves of the two. -/
def blockMain (c : Dev nD) (t : Fin cfg0.N) : Vec Ideal S16384x128 .bf16 := fun y => main_of (weight m c) (y 0) (col t (y 1))
def blockGate (c : Dev nD) (t : Fin cfg0.N) : Vec Ideal S16x128 .bf16 := fun y => gate_of (weight m c) (y 0) (col t (y 1))

/-- The main rows' block: what each of its two stores is given is that store's part of it. -/
theorem out1 (c : Dev nD) (t : Fin cfg0.N) (y : S16384x128.Idx) :
    (outsAt0 m c t).1 y = blockMain m c t y := by
  unfold outsAt0; dsimp only; unfold out0_A_1
  rw [View.read_writes_eq_canon _ _ _ (cover0_A_1 c _ _ _ _ _ _ _ _)]
  refine View.canon_apply_of_pieces (blockMain m c t) _ ?_ y (cover0_A_1 c _ _ _ _ _ _ _ _ y)
  unfold kernelRun0_A; dsimp only; sl_unfold_words
  simp only [View.readAt_eq_ld, (hs0_0 t).read_unread]
  intro p hp
  simp only [List.mem_cons, List.not_mem_nil, or_false] at hp
  rcases hp with rfl | rfl
  · intro x
    have hx : (x 0).val < 10240 := (x 0).isLt
    refine (congrArg (iblk m c 0 t) (eq2 _ (kept ⟨6144 + (x 0).val, by omega⟩) (x 1) ?_ ?_)).trans ((blk m c t _ _).trans ?_)
    · show 6160 + 1 * (x 0).val = if 6144 + (x 0).val < 6144 then _ else 6144 + (x 0).val + 16
      rw [if_neg (by omega)]; omega
    · show 0 + 1 * (x 1).val = (x 1).val; omega
    · refine congrArg (weight m c) (congrArg₂ ix2 (congrArg kept (Fin.ext ?_)) (congrArg (col t) (Fin.ext ?_)))
      · show 6144 + (x 0).val = 6144 + 1 * (x 0).val; omega
      · show (x 1).val = 0 + 1 * (x 1).val; omega
  · intro x
    have hx : (x 0).val < 6144 := (x 0).isLt
    refine (congrArg (iblk m c 0 t) (eq2 _ (kept ⟨(x 0).val, by omega⟩) (x 1) ?_ ?_)).trans ((blk m c t _ _).trans ?_)
    · show 0 + 1 * (x 0).val = if (x 0).val < 6144 then (x 0).val else _
      rw [if_pos hx]; omega
    · show 0 + 1 * (x 1).val = (x 1).val; omega
    · refine congrArg (weight m c) (congrArg₂ ix2 (congrArg kept (Fin.ext ?_)) (congrArg (col t) (Fin.ext ?_)))
      · show (x 0).val = 0 + 1 * (x 0).val; omega
      · show (x 1).val = 0 + 1 * (x 1).val; omega

/-- The gates' block. -/
theorem out2 (c : Dev nD) (t : Fin cfg0.N) (y : S16x128.Idx) :
    (outsAt0 m c t).2 y = blockGate m c t y := by
  unfold outsAt0; dsimp only; unfold out0_A_2
  rw [View.read_writes_eq_canon _ _ _ (cover0_A_2 c _ _ _ _ _ _ _ _)]
  refine View.canon_apply_of_pieces (blockGate m c t) _ ?_ y (cover0_A_2 c _ _ _ _ _ _ _ _ y)
  unfold kernelRun0_A; dsimp only; sl_unfold_words
  simp only [View.readAt_eq_ld, (hs0_0 t).read_unread]
  intro p hp
  simp only [List.mem_cons, List.not_mem_nil, or_false] at hp
  obtain rfl := hp
  intro x
  refine (congrArg (iblk m c 0 t) (eq2 _ (gate (x 0)) (x 1) ?_ ?_)).trans ((blk m c t _ _).trans ?_)
  · show 6144 + 1 * (x 0).val = 6144 + (x 0).val; omega
  · show 0 + 1 * (x 1).val = (x 1).val; omega
  · refine congrArg (weight m c) (congrArg₂ ix2 (congrArg gate (Fin.ext ?_)) (congrArg (col t) (Fin.ext ?_)))
    · show (x 0).val = 0 + 1 * (x 0).val; omega
    · show (x 1).val = 0 + 1 * (x 1).val; omega

/-! ## The arrays -/

/-- The main rows of device `c`, and the gates' rows. -/
def G1 (c : Dev nD) : Buf (Elt Ideal) ((c : Thread nD τ).loc main_v0_0) := fun (i : S16384x2048.Idx) => main_of (weight m c) (i 0) (i 1)
def G2 (c : Dev nD) : Buf (Elt Ideal) ((c : Thread nD τ).loc main_v0_1) := fun (i : S16x2048.Idx) => gate_of (weight m c) (i 0) (i 1)

theorem flushed1 (c : Dev nD) (t : Fin cfg0.N) : (dats m 0 c).flushed 1 t = ((cfg0.win 1).blk t).view.read (Elt Ideal) (G1 m c) := by
  have e := idx1 t
  rw [Value.flushed1]
  funext (y : S16384x128.Idx)
  refine (out1 m c t y).trans (congrArg₂ (main_of (weight m c)) (Fin.ext ?_) (Fin.ext ?_))
  · show (y 0).val = win0_1.index t 0 * 16384 + 1 * (y 0).val; rw [e.1]; omega
  · show 128 * t.val + (y 1).val = win0_1.index t 1 * 128 + 1 * (y 1).val; rw [e.2]; omega
theorem flushed2 (c : Dev nD) (t : Fin cfg0.N) : (dats m 0 c).flushed 2 t = ((cfg0.win 2).blk t).view.read (Elt Ideal) (G2 m c) := by
  have e := idx2 t
  rw [Value.flushed2]
  funext (y : S16x128.Idx)
  refine (out2 m c t y).trans (congrArg₂ (gate_of (weight m c)) (Fin.ext ?_) (Fin.ext ?_))
  · show (y 0).val = win0_2.index t 0 * 16 + 1 * (y 0).val; rw [e.1]; omega
  · show 128 * t.val + (y 1).val = win0_2.index t 1 * 128 + 1 * (y 1).val; rw [e.2]; omega

/-- The point whose block has column `n`. -/
def pointOf (n : Fin 2048) : Fin cfg0.N := ⟨n.val / 128, Nat.lt_of_lt_of_eq (by omega) N_0.symm⟩

theorem flushes1 : ∀ t : Fin cfg0.N, (cfg0.win 1).flush t = true := (by decide +kernel : ∀ t : Fin grid0.N, win0_1.flush t = true)
theorem flushes2 : ∀ t : Fin cfg0.N, (cfg0.win 2).flush t = true := (by decide +kernel : ∀ t : Fin grid0.N, win0_2.flush t = true)

theorem final1 (c : Dev nD) : (dats m 0 c).arrAt 1 cfg0.N = G1 m c :=
  (dats m 0 c).arrAt_eq_of_cover 1 (G1 m c) (fun t _ => flushed1 m c t) fun (i : S16384x2048.Idx) => ⟨pointOf (i 1), flushes1 _, by
    show i ∈ ((View.whole main_v0_0).slice (win0_1.rect (pointOf (i 1)))).set
    rw [View.set_slice_whole, Rect.mem_set_unit]
    have e := idx1 (pointOf (i 1))
    have h0 : (i 0 : ℕ) < 16384 := (i 0).isLt
    intro a
    match a with
    | ⟨0, _⟩ => show win0_1.index _ 0 * 16384 ≤ (i 0 : ℕ) ∧ (i 0 : ℕ) < win0_1.index _ 0 * 16384 + 16384; rw [e.1]; omega
    | ⟨1, _⟩ => show win0_1.index _ 1 * 128 ≤ (i 1 : ℕ) ∧ (i 1 : ℕ) < win0_1.index _ 1 * 128 + 128; rw [e.2]; show (i 1 : ℕ) / 128 * 128 ≤ _ ∧ _ < (i 1 : ℕ) / 128 * 128 + 128; omega⟩
theorem final2 (c : Dev nD) : (dats m 0 c).arrAt 2 cfg0.N = G2 m c :=
  (dats m 0 c).arrAt_eq_of_cover 2 (G2 m c) (fun t _ => flushed2 m c t) fun (i : S16x2048.Idx) => ⟨pointOf (i 1), flushes2 _, by
    show i ∈ ((View.whole main_v0_1).slice (win0_2.rect (pointOf (i 1)))).set
    rw [View.set_slice_whole, Rect.mem_set_unit]
    have e := idx2 (pointOf (i 1))
    have h0 : (i 0 : ℕ) < 16 := (i 0).isLt
    intro a
    match a with
    | ⟨0, _⟩ => show win0_2.index _ 0 * 16 ≤ (i 0 : ℕ) ∧ (i 0 : ℕ) < win0_2.index _ 0 * 16 + 16; rw [e.1]; omega
    | ⟨1, _⟩ => show win0_2.index _ 1 * 128 ≤ (i 1 : ℕ) ∧ (i 1 : ℕ) < win0_2.index _ 1 * 128 + 128; rw [e.2]; show (i 1 : ℕ) / 128 * 128 ≤ _ ∧ _ < (i 1 : ℕ) / 128 * 128 + 128; omega⟩

end Cert.PrepIdeal.Body

end
-- ==== Proof.PrepClaim.lean ====
/-
  The claims about the weight preparation: both programs end with the weight's main rows and its gates' rows.
-/
module

public import proofs.«01_k».proof.Defs
public import proofs.«01_k».proof.Proof.PrepArray
public import proofs.«01_k».proof.Proof.Gen.PrepRefIdeal.Read
public import Idealize.ShloMosaic.Lib.KernelVsHost

@[expose] public section

noncomputable section

namespace Cert.PrepClaim

open Idealize.ShloMosaic Idealize.ShloMosaic.TcCoe Idealize.SL.Sem
open Cert.PrepIdeal.Body (main_of gate_of kept gate eq2)
open Cert.PrepRefIdeal Cert.PrepRefIdeal.Read

/-- The reference's first result: its two joined parts are the rows before the gates' and those after. -/
theorem ref_main (w : S16400x2048.Idx → EReal) : val_main_v4 (F := Ideal) w = fun i : S16384x2048.Idx => main_of w (i 0) (i 1) := by
  funext i
  rw [val_main_v4_apply]
  unfold val_main_v3 main_of
  have h0 : (i 0 : ℕ) < 16384 := (i 0).isLt
  by_cases h : (i 0 : ℕ) < 6144
  · refine (concatenate_pair_apply_left (t := S16384x2048) (s₁ := S6144x2048) (s₂ := S10240x2048) 0 _ _ _ i rfl (ix2 (⟨(i 0 : ℕ), h⟩ : Fin 6144) (i 1)) ?_).trans ?_
    · intro j
      match j with
      | ⟨0, _⟩ => rfl
      | ⟨1, _⟩ => rfl
    · rw [val_main_v0_apply]
      refine congrArg w (eq2 _ _ _ ?_ rfl)
      show (i 0 : ℕ) = if (i 0 : ℕ) < 6144 then (i 0 : ℕ) else _
      rw [if_pos h]
  · refine (concatenate_pair_apply_right (t := S16384x2048) (s₁ := S6144x2048) (s₂ := S10240x2048) 0 _ _ _ i rfl rfl (ix2 (⟨(i 0 : ℕ) - 6144, by omega⟩ : Fin 10240) (i 1)) ?_ ?_).trans ?_
    · intro j hj
      match j with
      | ⟨0, _⟩ => exact absurd rfl hj
      | ⟨1, _⟩ => rfl
    · show (i 0 : ℕ) - 6144 + 6144 = (i 0 : ℕ); omega
    · rw [val_main_v2_apply]
      refine congrArg w (eq2 _ _ _ ?_ rfl)
      show 6160 + ((i 0 : ℕ) - 6144) = if (i 0 : ℕ) < 6144 then _ else (i 0 : ℕ) + 16
      rw [if_neg h]; omega

/-- Its second result: the gates' rows. -/
theorem ref_gate (w : S16400x2048.Idx → EReal) : val_main_v5 (F := Ideal) w = fun i : S16x2048.Idx => gate_of w (i 0) (i 1) := by
  funext i
  rw [val_main_v5_apply, val_main_v1_apply]
  exact congrArg w (eq2 _ _ _ rfl rfl)

theorem frame_ref : Cert.quiescent_PrepRefIdeal := fun m ρ _ =>
  (θ_run PrepRefIdeal.defs _ _).mono (fun r h => ⟨fun c => (h c).2.2, sem_eq_zero_of_no_sems (by decide) r.2⟩)
    (PrepRefIdeal.Value.run (F := Ideal) m ρ)

theorem algebraic : Cert.algebraic_PrepIdeal_PrepRefIdeal := by
  intro m ρ m' ρ' _ hagree
  refine ⟨fun c => PrepIdeal.Body.G1 m c, fun c => PrepIdeal.Body.G2 m c, ?_, ?_⟩
  · exact (θ_run PrepIdeal.defs _ _).mono
      (fun r h c => ⟨(h c).1.trans (PrepIdeal.Body.final1 m c), (h c).2.1.trans (PrepIdeal.Body.final2 m c), (h c).2.2⟩)
      (PrepIdeal.Value.run_blocks m ρ)
  · refine (θ_run PrepRefIdeal.defs _ _).mono (fun r h c => ⟨(h c).1.trans ?_, (h c).2.1.trans ?_, (h c).2.2⟩)
      (PrepRefIdeal.Value.run (F := Ideal) m' ρ')
    · rw [hagree c]; exact ref_main _
    · rw [hagree c]; exact ref_gate _

end Cert.PrepClaim

end
-- ==== Proof.lean ====
/- Certificate. -/
module

public import proofs.«01_k».proof.Proof.Gen.Ffn
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.In
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InRefIdeal
public import proofs.«01_k».proof.Proof.Gen.InRefIdeal.Run
public import proofs.«01_k».proof.Proof.Gen.InRefIdeal.Read
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Mlstm
public import proofs.«01_k».proof.Proof.Gen.Mlstm.Frame
public import proofs.«01_k».proof.Proof.Gen.MlstmIdeal
public import proofs.«01_k».proof.Proof.Gen.MlstmIdeal.Frame
public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Read
public import proofs.«01_k».proof.Proof.MixClaim
public import proofs.«01_k».proof.Proof.FfnFrame
public import proofs.«01_k».proof.Proof.FfnClaim
public import proofs.«01_k».proof.Proof.InFrame
public import proofs.«01_k».proof.Proof.InClaim
public import proofs.«01_k».proof.Proof.PrepClaim
public import Idealize.ShloMosaic.Adequacy
public import Idealize.ShloMosaic.Init

@[expose] public section

noncomputable section

namespace Cert.Proof

open Idealize.ShloMosaic Idealize.SL.Sem Cert.Mix

/-- The input projection's one named literal: its idealization has the real 1/√128 where the kernel has the word nearest to it. -/
theorem preserves_in : Cert.preserves_In_InIdeal :=
  IdealRules.named_const.statement Cert.InIdeal.κ "q_scale" .f32 0x3DB504F3#32 (((Real.sqrt 128)⁻¹ : ℝ) : EReal) rfl

/-- The mLSTM call's one named literal: its idealization has the real 1/log 2 where the kernel has the word nearest to it. -/
theorem preserves_mlstm : Cert.preserves_Mlstm_MlstmIdeal :=
  IdealRules.named_const.statement Cert.MlstmIdeal.κ "log2e" .f32 0x3FB8AA3B#32 (((Real.log 2)⁻¹ : ℝ) : EReal) rfl

/-- The mix call, the feed-forward call, the input projection and the weight preparation: both printings of each and its reference keep their
    arguments, and the idealized kernel and the reference compute the same arrays. The mLSTM call: both printings keep their arguments. -/
theorem claim : Cert.Claim :=
  ⟨Cert.Mix.Gen.facts, Cert.MixIdeal.Gen.facts, Cert.MixRefIdeal.Gen.facts,
    Cert.Ffn.Gen.facts, Cert.FfnIdeal.Gen.facts, Cert.FfnRefIdeal.Gen.facts,
    Cert.In.Gen.facts, Cert.InIdeal.Gen.facts, Cert.InRefIdeal.Gen.facts,
    Cert.Prep.Gen.facts, Cert.PrepIdeal.Gen.facts, Cert.PrepRefIdeal.Gen.facts,
    Cert.Mlstm.Gen.facts, Cert.MlstmIdeal.Gen.facts,
    fun m ρ _ => Cert.Mix.Gen.frame m ρ, fun m ρ _ => Cert.MixIdeal.Gen.frame m ρ, Cert.MixClaim.frame_ref,
    Cert.FfnFrame.frame, fun m ρ _ => Cert.FfnIdeal.Body.frame m ρ, Cert.FfnClaim.frame_ref,
    Cert.InFrame.frame, fun m ρ _ => Cert.InIdeal.Body.frame m ρ, Cert.InClaim.frame_ref,
    fun m ρ _ => Cert.Prep.Gen.frame m ρ, fun m ρ _ => Cert.PrepIdeal.Gen.frame m ρ, Cert.PrepClaim.frame_ref,
    fun m ρ _ => Cert.Mlstm.Gen.frame m ρ, fun m ρ _ => Cert.MlstmIdeal.Gen.frame m ρ,
    trivial, Cert.MixClaim.algebraic, trivial, Cert.FfnClaim.algebraic, preserves_in, Cert.InClaim.algebraic,
    trivial, Cert.PrepClaim.algebraic, preserves_mlstm⟩

end Cert.Proof

end
